-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_logs [hPre_finite_logs : Cert.Pre_finite_logs.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_logs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_logs [hPre_finite_logs : Cert.Pre_finite_logs.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_logs.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite_logs [hKernel3Ideal : Cert.Kernel3Ideal.Facts] [hPre_finite_logs : Cert.Pre_finite_logs.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_logs m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite_logs [hReference3Ideal : Cert.Reference3Ideal.Facts] [hPre_finite_logs : Cert.Pre_finite_logs.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_logs m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "log2_e" .f32 0x3FB8AA3B#32 (((Real.log 2)⁻¹ : ℝ) : EReal)

def algebraic_Kernel3Ideal_Reference3Ideal_pre_finite_logs [hKernel3Ideal : Cert.Kernel3Ideal.Facts] [hReference3Ideal : Cert.Reference3Ideal.Facts] [hPre_finite_logs : Cert.Pre_finite_logs.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_logs m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v44)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v44) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_finite_logs : Cert.Pre_finite_logs.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_logs (hKernel3Ideal := hKernel3Ideal) (hPre_finite_logs := hPre_finite_logs)
    ∧ quiescent_Reference3Ideal (hReference3Ideal := hReference3Ideal)
    ∧ quiescent_Reference3Ideal_pre_finite_logs (hReference3Ideal := hReference3Ideal) (hPre_finite_logs := hPre_finite_logs)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_logs (hKernel3Ideal := hKernel3Ideal) (hReference3Ideal := hReference3Ideal) (hPre_finite_logs := hPre_finite_logs)
-- ==== Pre_finite_logs.lean ====
abbrev S2x8192x1024 : Shape := ⟨3, ![2, 8192, 1024]⟩
abbrev S2x1024 : Shape := ⟨2, ![2, 1024]⟩
abbrev S2x8192x3x4x64 : Shape := ⟨5, ![2, 8192, 3, 4, 64]⟩
abbrev S2x8192x3x4 : Shape := ⟨4, ![2, 8192, 3, 4]⟩
abbrev S2x8192x512 : Shape := ⟨3, ![2, 8192, 512]⟩
abbrev S2x1024x7680 : Shape := ⟨3, ![2, 1024, 7680]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S_ : Shape := ⟨0, ![]⟩

class Facts : Prop where
  bcast_S_S2x8192x3x4 : S_.BroadcastsInDim S2x8192x3x4 (![] : Fin 0 → Fin S2x8192x3x4.rank)

variable [Facts]

def fn {F : FTy → Type} [FloatOps F] (main_arg0 : FVec F S2x8192x1024 .f32) (main_arg1 : FVec F S2x1024 .f32) (main_arg2 : FVec F S2x8192x3x4x64 .f32) (main_arg3 : FVec F S2x8192x3x4 .f32) (main_arg4 : FVec F S2x8192x512 .bf16) (main_arg5 : FVec F S2x8192x512 .bf16) (main_arg6 : FVec F S2x1024x7680 .f32) (main_arg7 : FVec F S2x256x1024 .f32) (main_arg8 : FVec F S2x512x1024 .f32) (main_arg9 : FVec F S2x512x1024 .f32) (main_arg10 : FVec F S2x1024x1024 .f32) : IVec S2x8192x3x4 1 :=
  let main_v0 : FVec F S2x8192x3x4 .f32 := Host.absf main_arg3
  let main_cst : FVec F S_ .f32 := constant S_ .f32 0x7F800000#32
  let main_v1 : FVec F S2x8192x3x4 .f32 := broadcastInDim S2x8192x3x4 ![] bcast_S_S2x8192x3x4 main_cst
  let main_v2 : IVec S2x8192x3x4 1 := cmpf .olt main_v0 main_v1
  main_v2
-- ==== Pre_finite_scores.lean ====
abbrev S2x8192x8x64 : Shape := ⟨4, ![2, 8192, 8, 64]⟩
abbrev S2x8192x2x64 : Shape := ⟨4, ![2, 8192, 2, 64]⟩
abbrev S64 : Shape := ⟨1, ![64]⟩
abbrev S_ : Shape := ⟨0, ![]⟩

class Facts : Prop where
  bcast_S_S2x8192x8x64 : S_.BroadcastsInDim S2x8192x8x64 (![] : Fin 0 → Fin S2x8192x8x64.rank)
  bcast_S_S2x8192x2x64 : S_.BroadcastsInDim S2x8192x2x64 (![] : Fin 0 → Fin S2x8192x2x64.rank)

variable [Facts]

def fn {F : FTy → Type} [FloatOps F] (main_arg0 : FVec F S2x8192x8x64 .f32) (main_arg1 : FVec F S2x8192x2x64 .f32) (main_arg2 : FVec F S2x8192x2x64 .f32) (main_arg3 : FVec F S64 .f32) (main_arg4 : FVec F S64 .f32) : IVec S2x8192x8x64 1 × IVec S2x8192x2x64 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_v3 : FVec F S2x8192x2x64 .f32 := Host.absf main_arg1
  let main_cst_0 : FVec F S_ .f32 := constant S_ .f32 0x7F800000#32
  let main_v4 : FVec F S2x8192x2x64 .f32 := broadcastInDim S2x8192x2x64 ![] bcast_S_S2x8192x2x64 main_cst_0
  let main_v5 : IVec S2x8192x2x64 1 := cmpf .olt main_v3 main_v4
  (main_v2, main_v5)
-- ==== Kernel.lean ====
abbrev S2x8192x8x64 : Shape := ⟨4, ![2, 8192, 8, 64]⟩
abbrev S2x8192x2x64 : Shape := ⟨4, ![2, 8192, 2, 64]⟩
abbrev S64 : Shape := ⟨1, ![64]⟩
abbrev S2x8x64x8192 : Shape := ⟨4, ![2, 8, 64, 8192]⟩
abbrev S2x2x8192x64 : Shape := ⟨4, ![2, 2, 8192, 64]⟩
abbrev S16x8192 : Shape := ⟨2, ![16, 8192]⟩
abbrev S_ : Shape := ⟨0, ![]⟩
abbrev S2x2x16x8192 : Shape := ⟨4, ![2, 2, 16, 8192]⟩
abbrev S2x2x64x8192 : Shape := ⟨4, ![2, 2, 64, 8192]⟩
abbrev S2x2x80x8192 : Shape := ⟨4, ![2, 2, 80, 8192]⟩
abbrev S1 : Shape := ⟨1, ![1]⟩
abbrev S2 : Shape := ⟨1, ![2]⟩
abbrev S2x8192x512 : Shape := ⟨3, ![2, 8192, 512]⟩
abbrev S1x4x64x4096 : Shape := ⟨4, ![1, 4, 64, 4096]⟩
abbrev S1x1x8192x64 : Shape := ⟨4, ![1, 1, 8192, 64]⟩
abbrev S1x1x80x8192 : Shape := ⟨4, ![1, 1, 80, 8192]⟩
abbrev S1x4096x256 : Shape := ⟨3, ![1, 4096, 256]⟩
abbrev S64x16384 : Shape := ⟨2, ![64, 16384]⟩
abbrev S1x16384 : Shape := ⟨2, ![1, 16384]⟩
abbrev S80x16384 : Shape := ⟨2, ![80, 16384]⟩
abbrev S512x512 : Shape := ⟨2, ![512, 512]⟩
abbrev S1x1x64x4096 : Shape := ⟨4, ![1, 1, 64, 4096]⟩
abbrev S64x4096 : Shape := ⟨2, ![64, 4096]⟩
abbrev S1x1x512x64 : Shape := ⟨4, ![1, 1, 512, 64]⟩
abbrev S512x64 : Shape := ⟨2, ![512, 64]⟩
abbrev S64x512 : Shape := ⟨2, ![64, 512]⟩
abbrev S1x1x80x512 : Shape := ⟨4, ![1, 1, 80, 512]⟩
abbrev S80x512 : Shape := ⟨2, ![80, 512]⟩
abbrev S1x512 : Shape := ⟨2, ![1, 512]⟩
abbrev S512 : Shape := ⟨1, ![512]⟩
abbrev S1x4096 : Shape := ⟨2, ![1, 4096]⟩
abbrev S256x4096 : Shape := ⟨2, ![256, 4096]⟩
abbrev S4096x256 : Shape := ⟨2, ![4096, 256]⟩

abbrev nBuf : Space → Nat
  | .hbm => 39
  | .vmem => 12
  | .smem => 1
  | _ => 0

abbrev bufTy : (tb : Table) → Fin (tcTables nBuf tb) → BufTy
  | .hbm, ⟨0, _⟩ => ⟨S2x8192x8x64, .f32⟩
  | .hbm, ⟨1, _⟩ => ⟨S2x8192x2x64, .f32⟩
  | .hbm, ⟨2, _⟩ => ⟨S2x8192x2x64, .f32⟩
  | .hbm, ⟨3, _⟩ => ⟨S64, .f32⟩
  | .hbm, ⟨4, _⟩ => ⟨S64, .f32⟩
  | .hbm, ⟨5, _⟩ => ⟨S2x8192x8x64, .bf16⟩
  | .hbm, ⟨6, _⟩ => ⟨S2x8x64x8192, .bf16⟩
  | .hbm, ⟨7, _⟩ => ⟨S2x8192x2x64, .bf16⟩
  | .hbm, ⟨8, _⟩ => ⟨S2x2x8192x64, .bf16⟩
  | .hbm, ⟨9, _⟩ => ⟨S16x8192, .i32⟩
  | .hbm, ⟨10, _⟩ => ⟨S_, .i32⟩
  | .hbm, ⟨11, _⟩ => ⟨S16x8192, .i32⟩
  | .hbm, ⟨12, _⟩ => ⟨S16x8192, .i1⟩
  | .hbm, ⟨13, _⟩ => ⟨S16x8192, .bf16⟩
  | .hbm, ⟨14, _⟩ => ⟨S2x2x16x8192, .bf16⟩
  | .hbm, ⟨15, _⟩ => ⟨S2x8192x2x64, .bf16⟩
  | .hbm, ⟨16, _⟩ => ⟨S2x2x64x8192, .bf16⟩
  | .hbm, ⟨17, _⟩ => ⟨S2x2x80x8192, .bf16⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S2, .f32⟩
  | .hbm, ⟨38, _⟩ => ⟨S2x8192x512, .bf16⟩
  | .local _ .vmem, ⟨0, _⟩ => ⟨S1x4x64x4096, .bf16⟩
  | .local _ .vmem, ⟨1, _⟩ => ⟨S1x4x64x4096, .bf16⟩
  | .local _ .vmem, ⟨2, _⟩ => ⟨S1x1x8192x64, .bf16⟩
  | .local _ .vmem, ⟨3, _⟩ => ⟨S1x1x8192x64, .bf16⟩
  | .local _ .vmem, ⟨4, _⟩ => ⟨S1x1x80x8192, .bf16⟩
  | .local _ .vmem, ⟨5, _⟩ => ⟨S1x1x80x8192, .bf16⟩
  | .local _ .vmem, ⟨6, _⟩ => ⟨S1x4096x256, .bf16⟩
  | .local _ .vmem, ⟨7, _⟩ => ⟨S1x4096x256, .bf16⟩
  | .local _ .vmem, ⟨8, _⟩ => ⟨S64x16384, .bf16⟩
  | .local _ .vmem, ⟨9, _⟩ => ⟨S1x16384, .f32⟩
  | .local _ .vmem, ⟨10, _⟩ => ⟨S80x16384, .f32⟩
  | .local _ .vmem, ⟨11, _⟩ => ⟨S512x512, .f32⟩
  | .local _ .smem, ⟨0, _⟩ => ⟨S2, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 2, 2], ![false, false, false]⟩

def k0_mult1 : BitVec 32 :=
  let c0_i32_44 : BitVec 32 := 0#32
  c0_i32_44
@[reducible] def k0_t1_loop : Scf.Loop 32 :=
  let c0_i32_53 : BitVec 32 := 0#32
  let c16_i32 : BitVec 32 := 16#32
  let v78 : BitVec 32 := Scalar.addi c0_i32_53 c16_i32
  let c1_i32 : BitVec 32 := 1#32
  ⟨c0_i32_53, v78, c1_i32⟩
def k0_mult2 (k0_t1 : Fin k0_t1_loop.trips) : BitVec 32 :=
  let c0_i32_53 : BitVec 32 := 0#32
  let c1_i32 : BitVec 32 := 1#32
  let arg12 : BitVec 32 := Scf.iv c0_i32_53 c1_i32 k0_t1
  let c512_i32 : BitVec 32 := 512#32
  let v79 : BitVec 32 := Scalar.muli arg12 c512_i32
  v79
def k0_off1 (k0_t1 : Fin k0_t1_loop.trips) : Fin 4 → Nat :=
  let c0_55 : Index := 0#32
  let c0_56 : Index := 0#32
  let c0_i32_53 : BitVec 32 := 0#32
  let c1_i32 : BitVec 32 := 1#32
  let arg12 : BitVec 32 := Scf.iv c0_i32_53 c1_i32 k0_t1
  let c512_i32 : BitVec 32 := 512#32
  let v79 : BitVec 32 := Scalar.muli arg12 c512_i32
  let v80 : BitVec 32 := v79
  let v81 : Index := Scalar.indexCast v80
  let c0_57 : Index := 0#32
  ![0, 0, v81.toNat, 0]
def k0_mult3 (k0_t1 : Fin k0_t1_loop.trips) : BitVec 32 :=
  let c0_i32_53 : BitVec 32 := 0#32
  let c1_i32 : BitVec 32 := 1#32
  let arg12 : BitVec 32 := Scf.iv c0_i32_53 c1_i32 k0_t1
  let c512_i32_58 : BitVec 32 := 512#32
  let v84 : BitVec 32 := Scalar.muli arg12 c512_i32_58
  v84
def k0_off2 (k0_t1 : Fin k0_t1_loop.trips) : Fin 4 → Nat :=
  let c0_59 : Index := 0#32
  let c0_60 : Index := 0#32
  let c0_61 : Index := 0#32
  let c0_i32_53 : BitVec 32 := 0#32
  let c1_i32 : BitVec 32 := 1#32
  let arg12 : BitVec 32 := Scf.iv c0_i32_53 c1_i32 k0_t1
  let c512_i32_58 : BitVec 32 := 512#32
  let v84 : BitVec 32 := Scalar.muli arg12 c512_i32_58
  let v85 : BitVec 32 := v84
  let v86 : Index := Scalar.indexCast v85
  ![0, 0, 0, v86.toNat]
def k0_mult4 (k0_t1 : Fin k0_t1_loop.trips) : BitVec 32 :=
  let c0_i32_53 : BitVec 32 := 0#32
  let c1_i32 : BitVec 32 := 1#32
  let arg12 : BitVec 32 := Scf.iv c0_i32_53 c1_i32 k0_t1
  let c1_i32_315 : BitVec 32 := 1#32
  let v493 : BitVec 32 := Scalar.addi arg12 c1_i32_315
  let c15_i32 : BitVec 32 := 15#32
  let v494 : BitVec 32 := Scalar.minsi v493 c15_i32
  let c512_i32_316 : BitVec 32 := 512#32
  let v495 : BitVec 32 := Scalar.muli v494 c512_i32_316
  v495
def k0_off3 (k0_t1 : Fin k0_t1_loop.trips) : Fin 4 → Nat :=
  let c0_317 : Index := 0#32
  let c0_318 : Index := 0#32
  let c0_i32_53 : BitVec 32 := 0#32
  let c1_i32 : BitVec 32 := 1#32
  let arg12 : BitVec 32 := Scf.iv c0_i32_53 c1_i32 k0_t1
  let c1_i32_315 : BitVec 32 := 1#32
  let v493 : BitVec 32 := Scalar.addi arg12 c1_i32_315
  let c15_i32 : BitVec 32 := 15#32
  let v494 : BitVec 32 := Scalar.minsi v493 c15_i32
  let c512_i32_316 : BitVec 32 := 512#32
  let v495 : BitVec 32 := Scalar.muli v494 c512_i32_316
  let v496 : BitVec 32 := v495
  let v497 : Index := Scalar.indexCast v496
  let c0_319 : Index := 0#32
  ![0, 0, v497.toNat, 0]
def k0_mult5 : BitVec 32 :=
  let c0_i32_47 : BitVec 32 := 0#32
  c0_i32_47
@[reducible] def k0_t2_loop : Scf.Loop 32 :=
  let c0_i32_56 : BitVec 32 := 0#32
  let c16_i32 : BitVec 32 := 16#32
  let v82 : BitVec 32 := Scalar.addi c0_i32_56 c16_i32
  let c1_i32 : BitVec 32 := 1#32
  ⟨c0_i32_56, v82, c1_i32⟩
def k0_mult6 (k0_t2 : Fin k0_t2_loop.trips) : BitVec 32 :=
  let c0_i32_56 : BitVec 32 := 0#32
  let c1_i32 : BitVec 32 := 1#32
  let arg12 : BitVec 32 := Scf.iv c0_i32_56 c1_i32 k0_t2
  let c512_i32 : BitVec 32 := 512#32
  let v83 : BitVec 32 := Scalar.muli arg12 c512_i32
  v83
def k0_off4 (k0_t2 : Fin k0_t2_loop.trips) : Fin 4 → Nat :=
  let c0_58 : Index := 0#32
  let c0_59 : Index := 0#32
  let c0_i32_56 : BitVec 32 := 0#32
  let c1_i32 : BitVec 32 := 1#32
  let arg12 : BitVec 32 := Scf.iv c0_i32_56 c1_i32 k0_t2
  let c512_i32 : BitVec 32 := 512#32
  let v83 : BitVec 32 := Scalar.muli arg12 c512_i32
  let v84 : BitVec 32 := v83
  let v85 : Index := Scalar.indexCast v84
  let c0_60 : Index := 0#32
  ![0, 0, v85.toNat, 0]
def k0_mult7 (k0_t2 : Fin k0_t2_loop.trips) : BitVec 32 :=
  let c0_i32_56 : BitVec 32 := 0#32
  let c1_i32 : BitVec 32 := 1#32
  let arg12 : BitVec 32 := Scf.iv c0_i32_56 c1_i32 k0_t2
  let c512_i32_61 : BitVec 32 := 512#32
  let v88 : BitVec 32 := Scalar.muli arg12 c512_i32_61
  v88
def k0_off5 (k0_t2 : Fin k0_t2_loop.trips) : Fin 4 → Nat :=
  let c0_62 : Index := 0#32
  let c0_63 : Index := 0#32
  let c0_64 : Index := 0#32
  let c0_i32_56 : BitVec 32 := 0#32
  let c1_i32 : BitVec 32 := 1#32
  let arg12 : BitVec 32 := Scf.iv c0_i32_56 c1_i32 k0_t2
  let c512_i32_61 : BitVec 32 := 512#32
  let v88 : BitVec 32 := Scalar.muli arg12 c512_i32_61
  let v89 : BitVec 32 := v88
  let v90 : Index := Scalar.indexCast v89
  ![0, 0, 0, v90.toNat]
def k0_mult8 (k0_t2 : Fin k0_t2_loop.trips) : BitVec 32 :=
  let c0_i32_56 : BitVec 32 := 0#32
  let c1_i32 : BitVec 32 := 1#32
  let arg12 : BitVec 32 := Scf.iv c0_i32_56 c1_i32 k0_t2
  let c1_i32_442 : BitVec 32 := 1#32
  let v807 : BitVec 32 := Scalar.addi arg12 c1_i32_442
  let c15_i32 : BitVec 32 := 15#32
  let v808 : BitVec 32 := Scalar.minsi v807 c15_i32
  let c512_i32_443 : BitVec 32 := 512#32
  let v809 : BitVec 32 := Scalar.muli v808 c512_i32_443
  v809
def k0_off6 (k0_t2 : Fin k0_t2_loop.trips) : Fin 4 → Nat :=
  let c0_444 : Index := 0#32
  let c0_445 : Index := 0#32
  let c0_i32_56 : BitVec 32 := 0#32
  let c1_i32 : BitVec 32 := 1#32
  let arg12 : BitVec 32 := Scf.iv c0_i32_56 c1_i32 k0_t2
  let c1_i32_442 : BitVec 32 := 1#32
  let v807 : BitVec 32 := Scalar.addi arg12 c1_i32_442
  let c15_i32 : BitVec 32 := 15#32
  let v808 : BitVec 32 := Scalar.minsi v807 c15_i32
  let c512_i32_443 : BitVec 32 := 512#32
  let v809 : BitVec 32 := Scalar.muli v808 c512_i32_443
  let v810 : BitVec 32 := v809
  let v811 : Index := Scalar.indexCast v810
  let c0_446 : Index := 0#32
  ![0, 0, v811.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x80x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "scale_log2e" => some (((8 * (Real.log 2))⁻¹ : ℝ) : EReal)
  | _ => none
-- ==== ReferenceIdeal.lean ====
abbrev S2x8192x8x64 : Shape := ⟨4, ![2, 8192, 8, 64]⟩
abbrev S2x8192x2x64 : Shape := ⟨4, ![2, 8192, 2, 64]⟩
abbrev S64 : Shape := ⟨1, ![64]⟩
abbrev S2x8192x2x4x64 : Shape := ⟨5, ![2, 8192, 2, 4, 64]⟩
abbrev S2x2x8192x8192x4 : Shape := ⟨5, ![2, 2, 8192, 8192, 4]⟩
abbrev S2x2x4x8192x8192 : Shape := ⟨5, ![2, 2, 4, 8192, 8192]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩
abbrev S2x8192x512 : Shape := ⟨3, ![2, 8192, 512]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x2x64, .f32⟩
  | .hbm, ⟨2, _⟩ => ⟨S2x8192x2x64, .f32⟩
  | .hbm, ⟨3, _⟩ => ⟨S64, .f32⟩
  | .hbm, ⟨4, _⟩ => ⟨S64, .f32⟩
  | .hbm, ⟨5, _⟩ => ⟨S2x8192x2x4x64, .f32⟩
  | .hbm, ⟨6, _⟩ => ⟨S2x2x8192x8192x4, .f32⟩
  | .hbm, ⟨7, _⟩ => ⟨S2x2x4x8192x8192, .f32⟩
  | .hbm, ⟨8, _⟩ => ⟨S_, .f32⟩
  | .hbm, ⟨9, _⟩ => ⟨S2x2x4x8192x8192, .f32⟩
  | .hbm, ⟨10, _⟩ => ⟨S2x2x4x8192x8192, .f32⟩
  | .hbm, ⟨11, _⟩ => ⟨S_, .f32⟩
  | .hbm, ⟨12, _⟩ => ⟨S2x2x4x8192, .f32⟩
  | .hbm, ⟨13, _⟩ => ⟨S_, .f32⟩
  | .hbm, ⟨14, _⟩ => ⟨S2x2x4x8192, .f32⟩
  | .hbm, ⟨15, _⟩ => ⟨S2x2x4x8192, .f32⟩
  | .hbm, ⟨16, _⟩ => ⟨S2x2x4x8192x1, .f32⟩
  | .hbm, ⟨17, _⟩ => ⟨S2x2x4x8192x8192, .f32⟩
  | .hbm, ⟨18, _⟩ => ⟨S2x2x4x8192x8192, .f32⟩
  | .hbm, ⟨19, _⟩ => ⟨S2x2x4x8192x8192, .f32⟩
  | .hbm, ⟨20, _⟩ => ⟨S_, .f32⟩
  | .hbm, ⟨21, _⟩ => ⟨S2x2x4x8192, .f32⟩
  | .hbm, ⟨22, _⟩ => ⟨S2x2x4x8192x1, .f32⟩
  | .hbm, ⟨23, _⟩ => ⟨S2x2x4x8192x8192, .f32⟩
  | .hbm, ⟨24, _⟩ => ⟨S2x2x4x8192x8192, .f32⟩
  | .hbm, ⟨25, _⟩ => ⟨S2x2x64x4x8192, .f32⟩
  | .hbm, ⟨26, _⟩ => ⟨S2x8192x2x4x64, .f32⟩
  | .hbm, ⟨27, _⟩ => ⟨S2x8192x512, .f32⟩
  | .hbm, ⟨28, _⟩ => ⟨S2x8192x512, .bf16⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S16384x1024 : Shape := ⟨2, ![16384, 1024]⟩
abbrev S1x1024 : Shape := ⟨2, ![1, 1024]⟩
abbrev S1024 : Shape := ⟨1, ![1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512x2816 : Shape := ⟨2, ![512, 2816]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x1408 : Shape := ⟨2, ![512, 1408]⟩
abbrev S1x1408x1024 : Shape := ⟨3, ![1, 1408, 1024]⟩
abbrev S1408x1024 : Shape := ⟨2, ![1408, 1024]⟩

abbrev nBuf : Space → Nat
  | .hbm => 9
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S16384x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .f32⟩
  | .local _ .vmem, ⟨4, _⟩ => ⟨S1x2816x1024, .f32⟩
  | .local _ .vmem, ⟨5, _⟩ => ⟨S512x1024, .f32⟩
  | .local _ .vmem, ⟨6, _⟩ => ⟨S512x1024, .f32⟩
  | .local _ .vmem, ⟨7, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S2x8192x1024 : Shape := ⟨3, ![2, 8192, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S_ : Shape := ⟨0, ![]⟩
abbrev S2x8192 : Shape := ⟨2, ![2, 8192]⟩
abbrev S2x8192x1 : Shape := ⟨3, ![2, 8192, 1]⟩
abbrev S1x1024 : Shape := ⟨2, ![1, 1024]⟩
abbrev S1024 : Shape := ⟨1, ![1024]⟩
abbrev S1x1x1024 : Shape := ⟨3, ![1, 1, 1024]⟩
abbrev S1x1024x5632 : Shape := ⟨3, ![1, 1024, 5632]⟩
abbrev S1024x5632 : Shape := ⟨2, ![1024, 5632]⟩
abbrev S2x8192x5632 : Shape := ⟨3, ![2, 8192, 5632]⟩
abbrev S2x8192x2816 : Shape := ⟨3, ![2, 8192, 2816]⟩
abbrev S1x2816x1024 : Shape := ⟨3, ![1, 2816, 1024]⟩
abbrev S2816x1024 : Shape := ⟨2, ![2816, 1024]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S1x1024x5632, .f32⟩
  | .hbm, ⟨23, _⟩ => ⟨S1024x5632, .f32⟩
  | .hbm, ⟨24, _⟩ => ⟨S2x8192x5632, .f32⟩
  | .hbm, ⟨25, _⟩ => ⟨S2x8192x2816, .f32⟩
  | .hbm, ⟨26, _⟩ => ⟨S2x8192x2816, .f32⟩
  | .hbm, ⟨27, _⟩ => ⟨S2x8192x2816, .f32⟩
  | .hbm, ⟨28, _⟩ => ⟨S2x8192x2816, .f32⟩
  | .hbm, ⟨29, _⟩ => ⟨S_, .f32⟩
  | .hbm, ⟨30, _⟩ => ⟨S2x8192x2816, .f32⟩
  | .hbm, ⟨31, _⟩ => ⟨S2x8192x2816, .f32⟩
  | .hbm, ⟨32, _⟩ => ⟨S_, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S2x8192x2816, .f32⟩
  | .hbm, ⟨37, _⟩ => ⟨S1x2816x1024, .f32⟩
  | .hbm, ⟨38, _⟩ => ⟨S2816x1024, .f32⟩
  | .hbm, ⟨39, _⟩ => ⟨S2x8192x1024, .f32⟩
  | .hbm, ⟨40, _⟩ => ⟨S2x8192x1024, .f32⟩
  | .hbm, ⟨41, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x1024 : Shape := ⟨2, ![2, 1024]⟩
abbrev S2x8192x3x4x64 : Shape := ⟨5, ![2, 8192, 3, 4, 64]⟩
abbrev S2x8192x3x4 : Shape := ⟨4, ![2, 8192, 3, 4]⟩
abbrev S2x8192x512 : Shape := ⟨3, ![2, 8192, 512]⟩
abbrev S2x1024x7680 : Shape := ⟨3, ![2, 1024, 7680]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S2x8192x1x4 : Shape := ⟨4, ![2, 8192, 1, 4]⟩
abbrev S2x8192x4 : Shape := ⟨3, ![2, 8192, 4]⟩
abbrev S2x8192x4x1 : Shape := ⟨4, ![2, 8192, 4, 1]⟩
abbrev S2x8192x4x64 : Shape := ⟨4, ![2, 8192, 4, 64]⟩
abbrev S2x8192x1x4x64 : Shape := ⟨5, ![2, 8192, 1, 4, 64]⟩
abbrev S2x8192x256 : Shape := ⟨3, ![2, 8192, 256]⟩
abbrev S2x8192x1x256 : Shape := ⟨4, ![2, 8192, 1, 256]⟩
abbrev S2x1x8192x256 : Shape := ⟨4, ![2, 1, 8192, 256]⟩
abbrev S2x2048x4x256 : Shape := ⟨4, ![2, 2048, 4, 256]⟩
abbrev S2x4x2048x256 : Shape := ⟨4, ![2, 4, 2048, 256]⟩
abbrev S2x512x16x256 : Shape := ⟨4, ![2, 512, 16, 256]⟩
abbrev S2x16x512x256 : Shape := ⟨4, ![2, 16, 512, 256]⟩
abbrev S16384x1024 : Shape := ⟨2, ![16384, 1024]⟩
abbrev S1x1024 : Shape := ⟨2, ![1, 1024]⟩
abbrev S1024 : Shape := ⟨1, ![1024]⟩
abbrev S16384x512 : Shape := ⟨2, ![16384, 512]⟩
abbrev S16384x256 : Shape := ⟨2, ![16384, 256]⟩
abbrev S512x1024 : Shape := ⟨2, ![512, 1024]⟩
abbrev S512x256 : Shape := ⟨2, ![512, 256]⟩
abbrev S1x4x128x256 : Shape := ⟨4, ![1, 4, 128, 256]⟩
abbrev S1x16x32x256 : Shape := ⟨4, ![1, 16, 32, 256]⟩
abbrev S512x512 : Shape := ⟨2, ![512, 512]⟩
abbrev S1x1024x512 : Shape := ⟨3, ![1, 1024, 512]⟩
abbrev S1x256x1024 : Shape := ⟨3, ![1, 256, 1024]⟩
abbrev S1x512x1024 : Shape := ⟨3, ![1, 512, 1024]⟩
abbrev S1x1024x1024 : Shape := ⟨3, ![1, 1024, 1024]⟩
abbrev S2x512x128 : Shape := ⟨3, ![2, 512, 128]⟩
abbrev S512 : Shape := ⟨1, ![512]⟩
abbrev S512x1 : Shape := ⟨2, ![512, 1]⟩
abbrev S1024x512 : Shape := ⟨2, ![1024, 512]⟩
abbrev S1x1x128x128 : Shape := ⟨4, ![1, 1, 128, 128]⟩
abbrev S128x128 : Shape := ⟨2, ![128, 128]⟩
abbrev S1x128x128 : Shape := ⟨3, ![1, 128, 128]⟩
abbrev S1x512x128 : Shape := ⟨3, ![1, 512, 128]⟩
abbrev S512x128 : Shape := ⟨2, ![512, 128]⟩
abbrev S1x1x32x128 : Shape := ⟨4, ![1, 1, 32, 128]⟩
abbrev S32x128 : Shape := ⟨2, ![32, 128]⟩
abbrev S1x32x128 : Shape := ⟨3, ![1, 32, 128]⟩
abbrev S256x1024 : Shape := ⟨2, ![256, 1024]⟩
abbrev S1024x1024 : Shape := ⟨2, ![1024, 1024]⟩

abbrev nBuf : Space → Nat
  | .hbm => 56
  | .vmem => 35
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x8192x3x4x64, .f32⟩
  | .hbm, ⟨3, _⟩ => ⟨S2x8192x3x4, .f32⟩
  | .hbm, ⟨4, _⟩ => ⟨S2x8192x512, .bf16⟩
  | .hbm, ⟨5, _⟩ => ⟨S2x8192x512, .bf16⟩
  | .hbm, ⟨6, _⟩ => ⟨S2x1024x7680, .f32⟩
  | .hbm, ⟨7, _⟩ => ⟨S2x256x1024, .f32⟩
  | .hbm, ⟨8, _⟩ => ⟨S2x512x1024, .f32⟩
  | .hbm, ⟨9, _⟩ => ⟨S2x512x1024, .f32⟩
  | .hbm, ⟨10, _⟩ => ⟨S2x1024x1024, .f32⟩
  | .hbm, ⟨11, _⟩ => ⟨S2x8192x1x4, .f32⟩
  | .hbm, ⟨12, _⟩ => ⟨S2x8192x4, .f32⟩
  | .hbm, ⟨13, _⟩ => ⟨S2x8192x4x1, .f32⟩
  | .hbm, ⟨14, _⟩ => ⟨S2x8192x4x64, .f32⟩
  | .hbm, ⟨15, _⟩ => ⟨S2x8192x1x4x64, .f32⟩
  | .hbm, ⟨16, _⟩ => ⟨S2x8192x4x64, .f32⟩
  | .hbm, ⟨17, _⟩ => ⟨S2x8192x256, .f32⟩
  | .hbm, ⟨18, _⟩ => ⟨S2x8192x1x256, .f32⟩
  | .hbm, ⟨19, _⟩ => ⟨S2x1x8192x256, .f32⟩
  | .hbm, ⟨20, _⟩ => ⟨S2x8192x256, .f32⟩
  | .hbm, ⟨21, _⟩ => ⟨S2x8192x1x256, .f32⟩
  | .hbm, ⟨22, _⟩ => ⟨S2x1x8192x256, .f32⟩
  | .hbm, ⟨23, _⟩ => ⟨S2x8192x1x4, .f32⟩
  | .hbm, ⟨24, _⟩ => ⟨S2x8192x4, .f32⟩
  | .hbm, ⟨25, _⟩ => ⟨S2x8192x4x1, .f32⟩
  | .hbm, ⟨26, _⟩ => ⟨S2x8192x4x64, .f32⟩
  | .hbm, ⟨27, _⟩ => ⟨S2x8192x1x4x64, .f32⟩
  | .hbm, ⟨28, _⟩ => ⟨S2x8192x4x64, .f32⟩
  | .hbm, ⟨29, _⟩ => ⟨S2x8192x256, .f32⟩
  | .hbm, ⟨30, _⟩ => ⟨S2x2048x4x256, .f32⟩
  | .hbm, ⟨31, _⟩ => ⟨S2x4x2048x256, .f32⟩
  | .hbm, ⟨32, _⟩ => ⟨S2x8192x256, .f32⟩
  | .hbm, ⟨33, _⟩ => ⟨S2x2048x4x256, .f32⟩
  | .hbm, ⟨34, _⟩ => ⟨S2x4x2048x256, .f32⟩
  | .hbm, ⟨35, _⟩ => ⟨S2x8192x1x4, .f32⟩
  | .hbm, ⟨36, _⟩ => ⟨S2x8192x4, .f32⟩
  | .hbm, ⟨37, _⟩ => ⟨S2x8192x4x1, .f32⟩
  | .hbm, ⟨38, _⟩ => ⟨S2x8192x4x64, .f32⟩
  | .hbm, ⟨39, _⟩ => ⟨S2x8192x1x4x64, .f32⟩
  | .hbm, ⟨40, _⟩ => ⟨S2x8192x4x64, .f32⟩
  | .hbm, ⟨41, _⟩ => ⟨S2x8192x256, .f32⟩
  | .hbm, ⟨42, _⟩ => ⟨S2x512x16x256, .f32⟩
  | .hbm, ⟨43, _⟩ => ⟨S2x16x512x256, .f32⟩
  | .hbm, ⟨44, _⟩ => ⟨S2x8192x256, .f32⟩
  | .hbm, ⟨45, _⟩ => ⟨S2x512x16x256, .f32⟩
  | .hbm, ⟨46, _⟩ => ⟨S2x16x512x256, .f32⟩
  | .hbm, ⟨47, _⟩ => ⟨S16384x1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S16384x512, .bf16⟩
  | .hbm, ⟨52, _⟩ => ⟨S16384x512, .bf16⟩
  | .hbm, ⟨53, _⟩ => ⟨S16384x256, .f32⟩
  | .hbm, ⟨54, _⟩ => ⟨S16384x256, .f32⟩
  | .hbm, ⟨55, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x256, .f32⟩
  | .local _ .vmem, ⟨4, _⟩ => ⟨S512x256, .f32⟩
  | .local _ .vmem, ⟨5, _⟩ => ⟨S1x4x128x256, .f32⟩
  | .local _ .vmem, ⟨6, _⟩ => ⟨S1x4x128x256, .f32⟩
  | .local _ .vmem, ⟨7, _⟩ => ⟨S1x16x32x256, .f32⟩
  | .local _ .vmem, ⟨8, _⟩ => ⟨S1x16x32x256, .f32⟩
  | .local _ .vmem, ⟨9, _⟩ => ⟨S512x256, .f32⟩
  | .local _ .vmem, ⟨10, _⟩ => ⟨S512x256, .f32⟩
  | .local _ .vmem, ⟨11, _⟩ => ⟨S1x4x128x256, .f32⟩
  | .local _ .vmem, ⟨12, _⟩ => ⟨S1x4x128x256, .f32⟩
  | .local _ .vmem, ⟨13, _⟩ => ⟨S1x16x32x256, .f32⟩
  | .local _ .vmem, ⟨14, _⟩ => ⟨S1x16x32x256, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S1x1024x512, .f32⟩
  | .local _ .vmem, ⟨20, _⟩ => ⟨S1x1024x512, .f32⟩
  | .local _ .vmem, ⟨21, _⟩ => ⟨S1x1024x512, .f32⟩
  | .local _ .vmem, ⟨22, _⟩ => ⟨S1x1024x512, .f32⟩
  | .local _ .vmem, ⟨23, _⟩ => ⟨S1x1024x512, .f32⟩
  | .local _ .vmem, ⟨24, _⟩ => ⟨S1x1024x512, .f32⟩
  | .local _ .vmem, ⟨25, _⟩ => ⟨S1x256x1024, .f32⟩
  | .local _ .vmem, ⟨26, _⟩ => ⟨S1x512x1024, .f32⟩
  | .local _ .vmem, ⟨27, _⟩ => ⟨S1x512x1024, .f32⟩
  | .local _ .vmem, ⟨28, _⟩ => ⟨S1x1024x1024, .f32⟩
  | .local _ .vmem, ⟨29, _⟩ => ⟨S512x1024, .f32⟩
  | .local _ .vmem, ⟨30, _⟩ => ⟨S512x1024, .f32⟩
  | .local _ .vmem, ⟨31, _⟩ => ⟨S2x512x128, .f32⟩
  | .local _ .vmem, ⟨32, _⟩ => ⟨S2x512x128, .f32⟩
  | .local _ .vmem, ⟨33, _⟩ => ⟨S2x512x128, .f32⟩
  | .local _ .vmem, ⟨34, _⟩ => ⟨S2x512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg20_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c9_i32 : BitVec 32 := 9#32
  let c0_i32_0 : BitVec 32 := 0#32
  ![c1_i32.toNat, c0_i32.toNat, c9_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c10_i32 : BitVec 32 := 10#32
  let c0_i32_0 : BitVec 32 := 0#32
  ![c1_i32.toNat, c0_i32.toNat, c10_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c11_i32 : BitVec 32 := 11#32
  let c0_i32_0 : BitVec 32 := 0#32
  ![c1_i32.toNat, c0_i32.toNat, c11_i32.toNat]

def cc0_transform_13 (i : grid0.Coords) : Fin 3 → Nat :=
  let arg0 : BitVec 32 := BitVec.ofNat 32 (i 0).val
  let c1_i32 : BitVec 32 := 1#32
  let c0_i32 : BitVec 32 := 0#32
  let c12_i32 : BitVec 32 := 12#32
  let c0_i32_0 : BitVec 32 := 0#32
  ![c1_i32.toNat, c0_i32.toNat, c12_i32.toNat]

def cc0_transform_14 (i : grid0.Coords) : Fin 3 → Nat :=
  let arg0 : BitVec 32 := BitVec.ofNat 32 (i 0).val
  let c1_i32 : BitVec 32 := 1#32
  let c0_i32 : BitVec 32 := 0#32
  let c13_i32 : BitVec 32 := 13#32
  let c0_i32_0 : BitVec 32 := 0#32
  ![c1_i32.toNat, c0_i32.toNat, c13_i32.toNat]

def cc0_transform_15 (i : grid0.Coords) : Fin 3 → Nat :=
  let arg0 : BitVec 32 := BitVec.ofNat 32 (i 0).val
  let c1_i32 : BitVec 32 := 1#32
  let c0_i32 : BitVec 32 := 0#32
  let c14_i32 : BitVec 32 := 14#32
  let c0_i32_0 : BitVec 32 := 0#32
  ![c1_i32.toNat, c0_i32.toNat, c14_i32.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_19 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Kernel3Ideal.lean ====
variable {F : FTy → Type} [FloatOps F] [Named F]
def κ : String → Option EReal := fun
  | "log2_e" => some (((Real.log 2)⁻¹ : ℝ) : EReal)
  | _ => none
-- ==== Reference3Ideal.lean ====
abbrev S2x8192x1024 : Shape := ⟨3, ![2, 8192, 1024]⟩
abbrev S2x1024 : Shape := ⟨2, ![2, 1024]⟩
abbrev S2x8192x3x4x64 : Shape := ⟨5, ![2, 8192, 3, 4, 64]⟩
abbrev S2x8192x3x4 : Shape := ⟨4, ![2, 8192, 3, 4]⟩
abbrev S2x8192x512 : Shape := ⟨3, ![2, 8192, 512]⟩
abbrev S2x1024x7680 : Shape := ⟨3, ![2, 1024, 7680]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S_ : Shape := ⟨0, ![]⟩
abbrev S2x8192 : Shape := ⟨2, ![2, 8192]⟩
abbrev S2x8192x1 : Shape := ⟨3, ![2, 8192, 1]⟩
abbrev S1x1024 : Shape := ⟨2, ![1, 1024]⟩
abbrev S1024 : Shape := ⟨1, ![1024]⟩
abbrev S1x1x1024 : Shape := ⟨3, ![1, 1, 1024]⟩
abbrev S1x1024x7680 : Shape := ⟨3, ![1, 1024, 7680]⟩
abbrev S1024x7680 : Shape := ⟨2, ![1024, 7680]⟩
abbrev S1024x3072 : Shape := ⟨2, ![1024, 3072]⟩
abbrev S2x8192x3072 : Shape := ⟨3, ![2, 8192, 3072]⟩
abbrev S2x8192x4 : Shape := ⟨3, ![2, 8192, 4]⟩
abbrev S2x8192x1x4 : Shape := ⟨4, ![2, 8192, 1, 4]⟩
abbrev S2x8192x3x4x1 : Shape := ⟨5, ![2, 8192, 3, 4, 1]⟩
abbrev S2x8192x4x64 : Shape := ⟨4, ![2, 8192, 4, 64]⟩
abbrev S2x8192x256 : Shape := ⟨3, ![2, 8192, 256]⟩
abbrev S2x8192x3x1024 : Shape := ⟨4, ![2, 8192, 3, 1024]⟩
abbrev S2x8192x1x1024 : Shape := ⟨4, ![2, 8192, 1, 1024]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S16384x1024 : Shape := ⟨2, ![16384, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x8192x3x4x64, .f32⟩
  | .hbm, ⟨3, _⟩ => ⟨S2x8192x3x4, .f32⟩
  | .hbm, ⟨4, _⟩ => ⟨S2x8192x512, .bf16⟩
  | .hbm, ⟨5, _⟩ => ⟨S2x8192x512, .bf16⟩
  | .hbm, ⟨6, _⟩ => ⟨S2x1024x7680, .f32⟩
  | .hbm, ⟨7, _⟩ => ⟨S2x256x1024, .f32⟩
  | .hbm, ⟨8, _⟩ => ⟨S2x512x1024, .f32⟩
  | .hbm, ⟨9, _⟩ => ⟨S2x512x1024, .f32⟩
  | .hbm, ⟨10, _⟩ => ⟨S2x1024x1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1024, .f32⟩
  | .hbm, ⟨25, _⟩ => ⟨S1024, .f32⟩
  | .hbm, ⟨26, _⟩ => ⟨S1x1x1024, .f32⟩
  | .hbm, ⟨27, _⟩ => ⟨S2x8192x1024, .f32⟩
  | .hbm, ⟨28, _⟩ => ⟨S2x8192x1024, .f32⟩
  | .hbm, ⟨29, _⟩ => ⟨S1x1024x7680, .f32⟩
  | .hbm, ⟨30, _⟩ => ⟨S1024x7680, .f32⟩
  | .hbm, ⟨31, _⟩ => ⟨S1024x3072, .f32⟩
  | .hbm, ⟨32, _⟩ => ⟨S2x8192x3072, .f32⟩
  | .hbm, ⟨33, _⟩ => ⟨S_, .f32⟩
  | .hbm, ⟨34, _⟩ => ⟨S2x8192x4, .f32⟩
  | .hbm, ⟨35, _⟩ => ⟨S_, .f32⟩
  | .hbm, ⟨36, _⟩ => ⟨S2x8192x4, .f32⟩
  | .hbm, ⟨37, _⟩ => ⟨S2x8192x4, .f32⟩
  | .hbm, ⟨38, _⟩ => ⟨S2x8192x1x4, .f32⟩
  | .hbm, ⟨39, _⟩ => ⟨S2x8192x3x4, .f32⟩
  | .hbm, ⟨40, _⟩ => ⟨S2x8192x3x4, .f32⟩
  | .hbm, ⟨41, _⟩ => ⟨S2x8192x3x4, .f32⟩
  | .hbm, ⟨42, _⟩ => ⟨S_, .f32⟩
  | .hbm, ⟨43, _⟩ => ⟨S2x8192x4, .f32⟩
  | .hbm, ⟨44, _⟩ => ⟨S2x8192x1x4, .f32⟩
  | .hbm, ⟨45, _⟩ => ⟨S2x8192x3x4, .f32⟩
  | .hbm, ⟨46, _⟩ => ⟨S2x8192x3x4, .f32⟩
  | .hbm, ⟨47, _⟩ => ⟨S2x8192x3x4x1, .f32⟩
  | .hbm, ⟨48, _⟩ => ⟨S2x8192x3x4x64, .f32⟩
  | .hbm, ⟨49, _⟩ => ⟨S2x8192x3x4x64, .f32⟩
  | .hbm, ⟨50, _⟩ => ⟨S_, .f32⟩
  | .hbm, ⟨51, _⟩ => ⟨S2x8192x4x64, .f32⟩
  | .hbm, ⟨52, _⟩ => ⟨S2x8192x256, .f32⟩
  | .hbm, ⟨53, _⟩ => ⟨S2x8192x3x1024, .f32⟩
  | .hbm, ⟨54, _⟩ => ⟨S2x8192x3x1024, .f32⟩
  | .hbm, ⟨55, _⟩ => ⟨S2x8192x3x1024, .f32⟩
  | .hbm, ⟨56, _⟩ => ⟨S_, .f32⟩
  | .hbm, ⟨57, _⟩ => ⟨S2x8192x3x1024, .f32⟩
  | .hbm, ⟨58, _⟩ => ⟨S2x8192x3x1024, .f32⟩
  | .hbm, ⟨59, _⟩ => ⟨S_, .f32⟩
  | .hbm, ⟨60, _⟩ => ⟨S2x8192x3x1024, .f32⟩
  | .hbm, ⟨61, _⟩ => ⟨S2x8192x3x1024, .f32⟩
  | .hbm, ⟨62, _⟩ => ⟨S2x8192x1x1024, .f32⟩
  | .hbm, ⟨63, _⟩ => ⟨S2x8192x1024, .f32⟩
  | .hbm, ⟨64, _⟩ => ⟨S1x256x1024, .f32⟩
  | .hbm, ⟨65, _⟩ => ⟨S256x1024, .f32⟩
  | .hbm, ⟨66, _⟩ => ⟨S2x8192x1024, .f32⟩
  | .hbm, ⟨67, _⟩ => ⟨S2x8192x1024, .f32⟩
  | .hbm, ⟨68, _⟩ => ⟨S2x8192x1x1024, .f32⟩
  | .hbm, ⟨69, _⟩ => ⟨S2x8192x1024, .f32⟩
  | .hbm, ⟨70, _⟩ => ⟨S2x8192x512, .f32⟩
  | .hbm, ⟨71, _⟩ => ⟨S1x512x1024, .f32⟩
  | .hbm, ⟨72, _⟩ => ⟨S512x1024, .f32⟩
  | .hbm, ⟨73, _⟩ => ⟨S2x8192x1024, .f32⟩
  | .hbm, ⟨74, _⟩ => ⟨S2x8192x1024, .f32⟩
  | .hbm, ⟨75, _⟩ => ⟨S2x8192x1024, .f32⟩
  | .hbm, ⟨76, _⟩ => ⟨S2x8192x1x1024, .f32⟩
  | .hbm, ⟨77, _⟩ => ⟨S2x8192x1024, .f32⟩
  | .hbm, ⟨78, _⟩ => ⟨S2x8192x512, .f32⟩
  | .hbm, ⟨79, _⟩ => ⟨S1x512x1024, .f32⟩
  | .hbm, ⟨80, _⟩ => ⟨S512x1024, .f32⟩
  | .hbm, ⟨81, _⟩ => ⟨S2x8192x1024, .f32⟩
  | .hbm, ⟨82, _⟩ => ⟨S2x8192x1024, .f32⟩
  | .hbm, ⟨83, _⟩ => ⟨S2x8192x1024, .f32⟩
  | .hbm, ⟨84, _⟩ => ⟨S1x1024x1024, .f32⟩
  | .hbm, ⟨85, _⟩ => ⟨S1024x1024, .f32⟩
  | .hbm, ⟨86, _⟩ => ⟨S2x8192x1024, .f32⟩
  | .hbm, ⟨87, _⟩ => ⟨S2x8192x1024, .f32⟩
  | .hbm, ⟨88, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]
-- ==== Proof.Mixer.Run.lean ====
/- The body of the attention kernel at one grid point, run in its two cases: the case of the fixed shift
   and the case of the running maximum. -/
module

public import proofs.«01_k».proof.Proof.Gen.KernelIdeal.Frame
public import proofs.«01_k».proof.Proof.Gen.KernelIdeal.Loops

@[expose] public section

set_option maxRecDepth 16384

noncomputable section

namespace Cert.KernelIdeal.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The word on which the kernel branches: whether the second shift word `s` exceeds one half. -/
def small (s : F .f32) : BitVec 1 := Scalar.cmpf .ogt s (Scalar.ofBits .f32 0x3F000000#32)

/-- The second shift word as the kernel loads it. -/
def flag (arg6 : Memref sig .tc .smem S2 .f32) (f : BufTy.Contents (Elt F) arg6.view.ty) : F .f32 :=
  View.readAt (Elt F) arg6.view (Rect.unit (s := S2) ![1] S1.size inb_S2_S1_1).toLoadRect f (Shape.Idx.first (numel1_S1.symm ▸ Nat.one_pos))

/-- The condition of the first branch and of the second, from the word. -/
theorem small_pos {b : BitVec 1} (h : b = 1#1) :
    Scalar.cmpi .ne (Scalar.extui b : BitVec 32) 0#32 = 1#1 ∧ ¬ Scalar.cmpi .ne (Scalar.extui (Scalar.xori b 1#1) : BitVec 32) 0#32 = 1#1 := by
  subst h; decide

theorem small_neg {b : BitVec 1} (h : ¬ b = 1#1) :
    ¬ Scalar.cmpi .ne (Scalar.extui b : BitVec 32) 0#32 = 1#1 ∧ Scalar.cmpi .ne (Scalar.extui (Scalar.xori b 1#1) : BitVec 32) 0#32 = 1#1 := by
  have h0 : b = 0#1 := by bv_omega
  subst h0; decide

set_option maxHeartbeats 2000000 in
/-- The body in the case of the fixed shift, with the pieces that it stores into the result's block. -/
noncomputable def kernelRunA (c : Dev nD) (i : grid0.Coords) (arg3 : Memref sig .tc .vmem S1x4x64x4096 .bf16) (harg3 : arg3.IsWhole) (arg4 : Memref sig .tc .vmem S1x1x8192x64 .bf16) (harg4 : arg4.IsWhole) (arg5 : Memref sig .tc .vmem S1x1x80x8192 .bf16) (harg5 : arg5.IsWhole) (arg6 : Memref sig .tc .smem S2 .f32) (harg6 : arg6.IsWhole) (arg7 : Memref sig .tc .vmem S1x4096x256 .bf16) (harg7 : arg7.IsWhole) (arg8 : Memref sig .tc .vmem S64x16384 .bf16) (harg8 : arg8.IsWhole) (arg9 : Memref sig .tc .vmem S1x16384 .f32) (harg9 : arg9.IsWhole) (arg10 : Memref sig .tc .vmem S80x16384 .f32) (harg10 : arg10.IsWhole) (arg11 : Memref sig .tc .vmem S512x512 .f32) (harg11 : arg11.IsWhole)
    (x0 : Vec F S1x4x64x4096 .bf16) (x1 : Vec F S1x1x8192x64 .bf16) (x2 : Vec F S1x1x80x8192 .bf16) (x3 : Vec F S2 .f32) (hc : small (flag arg6 (harg6.unread x3)) = 1#1) :
    { L4 : List (View.Piece (Elt F) S1x4096x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f)) -∗ K ⟨⟩))
          ⊢ wp frame (wpE (defs₀ (F := F)) Variants.none c none) E (cc0_mixer_c i arg3 harg3 arg4 harg4 arg5 harg5 arg6 harg6 arg7 harg7 arg8 harg8 arg9 harg9 arg10 harg10 arg11 harg11) K } := by
  refine ⟨?_, fun E K => ?run⟩
  case run =>
    simp only [cc0_mixer_c_eq_skeleton]; unfold cc0_mixer_c_skel
    simp only [k0_part35_eq_skeleton, k0_part36_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d8, %f8, -, HS8⟩, ⟨%d9, %f9, -, HS9⟩, ⟨%d10, %f10, -, HS10⟩, ⟨%d11, %f11, -, HS11⟩, Hk⟩
    obtain rfl := harg3.eq_unread hf0; obtain rfl := harg4.eq_unread hf1; obtain rfl := harg5.eq_unread hf2; obtain rfl := harg6.eq_unread hf3
    obtain ⟨h1, h2⟩ := small_pos hc
    sl_exec (disch := first | exact h1 | exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS8]; · iexists _; iexact HS8
    isplitl [HS9]; · iexists _; iexact HS9
    isplitl [HS10]; · iexists _; iexact HS10
    iexists _; iexact HS11

set_option maxHeartbeats 2000000 in
/-- The body in the case of the running maximum, with the pieces that it stores into the result's block. -/
noncomputable def kernelRunB (c : Dev nD) (i : grid0.Coords) (arg3 : Memref sig .tc .vmem S1x4x64x4096 .bf16) (harg3 : arg3.IsWhole) (arg4 : Memref sig .tc .vmem S1x1x8192x64 .bf16) (harg4 : arg4.IsWhole) (arg5 : Memref sig .tc .vmem S1x1x80x8192 .bf16) (harg5 : arg5.IsWhole) (arg6 : Memref sig .tc .smem S2 .f32) (harg6 : arg6.IsWhole) (arg7 : Memref sig .tc .vmem S1x4096x256 .bf16) (harg7 : arg7.IsWhole) (arg8 : Memref sig .tc .vmem S64x16384 .bf16) (harg8 : arg8.IsWhole) (arg9 : Memref sig .tc .vmem S1x16384 .f32) (harg9 : arg9.IsWhole) (arg10 : Memref sig .tc .vmem S80x16384 .f32) (harg10 : arg10.IsWhole) (arg11 : Memref sig .tc .vmem S512x512 .f32) (harg11 : arg11.IsWhole)
    (x0 : Vec F S1x4x64x4096 .bf16) (x1 : Vec F S1x1x8192x64 .bf16) (x2 : Vec F S1x1x80x8192 .bf16) (x3 : Vec F S2 .f32) (hc : ¬ small (flag arg6 (harg6.unread x3)) = 1#1) :
    { L4 : List (View.Piece (Elt F) S1x4096x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f)) -∗ K ⟨⟩))
          ⊢ wp frame (wpE (defs₀ (F := F)) Variants.none c none) E (cc0_mixer_c i arg3 harg3 arg4 harg4 arg5 harg5 arg6 harg6 arg7 harg7 arg8 harg8 arg9 harg9 arg10 harg10 arg11 harg11) K } := by
  refine ⟨?_, fun E K => ?run⟩
  case run =>
    simp only [cc0_mixer_c_eq_skeleton]; unfold cc0_mixer_c_skel
    simp only [k0_part35_eq_skeleton, k0_part36_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d8, %f8, -, HS8⟩, ⟨%d9, %f9, -, HS9⟩, ⟨%d10, %f10, -, HS10⟩, ⟨%d11, %f11, -, HS11⟩, Hk⟩
    obtain rfl := harg3.eq_unread hf0; obtain rfl := harg4.eq_unread hf1; obtain rfl := harg5.eq_unread hf2; obtain rfl := harg6.eq_unread hf3
    obtain ⟨h1, h2⟩ := small_neg hc
    sl_exec (disch := first | exact h1 | exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS8]; · iexists _; iexact HS8
    isplitl [HS9]; · iexists _; iexact HS9
    isplitl [HS10]; · iexists _; iexact HS10
    iexists _; iexact HS11

/-- The pieces cover the block: there is one, the whole of it. -/
theorem coverA (c : Dev nD) (i : grid0.Coords) (arg3 : Memref sig .tc .vmem S1x4x64x4096 .bf16) (harg3 : arg3.IsWhole) (arg4 : Memref sig .tc .vmem S1x1x8192x64 .bf16) (harg4 : arg4.IsWhole) (arg5 : Memref sig .tc .vmem S1x1x80x8192 .bf16) (harg5 : arg5.IsWhole) (arg6 : Memref sig .tc .smem S2 .f32) (harg6 : arg6.IsWhole) (arg7 : Memref sig .tc .vmem S1x4096x256 .bf16) (harg7 : arg7.IsWhole) (arg8 : Memref sig .tc .vmem S64x16384 .bf16) (harg8 : arg8.IsWhole) (arg9 : Memref sig .tc .vmem S1x16384 .f32) (harg9 : arg9.IsWhole) (arg10 : Memref sig .tc .vmem S80x16384 .f32) (harg10 : arg10.IsWhole) (arg11 : Memref sig .tc .vmem S512x512 .f32) (harg11 : arg11.IsWhole)
    (x0 : Vec F S1x4x64x4096 .bf16) (x1 : Vec F S1x1x8192x64 .bf16) (x2 : Vec F S1x1x80x8192 .bf16) (x3 : Vec F S2 .f32) (hc : small (flag arg6 (harg6.unread x3)) = 1#1) (y : S1x4096x256.Idx) :
    ∃ pc ∈ (kernelRunA c i arg3 harg3 arg4 harg4 arg5 harg5 arg6 harg6 arg7 harg7 arg8 harg8 arg9 harg9 arg10 harg10 arg11 harg11 x0 x1 x2 x3 hc).1, y ∈ pc.1.set :=
  View.cover_of_tiledL (kernelRunA c i arg3 harg3 arg4 harg4 arg5 harg5 arg6 harg6 arg7 harg7 arg8 harg8 arg9 harg9 arg10 harg10 arg11 harg11 x0 x1 x2 x3 hc).1 S1x4096x256.size (by sl_kernel_rfl) y

/-- The pieces cover the block: there is one, the whole of it. -/
theorem coverB (c : Dev nD) (i : grid0.Coords) (arg3 : Memref sig .tc .vmem S1x4x64x4096 .bf16) (harg3 : arg3.IsWhole) (arg4 : Memref sig .tc .vmem S1x1x8192x64 .bf16) (harg4 : arg4.IsWhole) (arg5 : Memref sig .tc .vmem S1x1x80x8192 .bf16) (harg5 : arg5.IsWhole) (arg6 : Memref sig .tc .smem S2 .f32) (harg6 : arg6.IsWhole) (arg7 : Memref sig .tc .vmem S1x4096x256 .bf16) (harg7 : arg7.IsWhole) (arg8 : Memref sig .tc .vmem S64x16384 .bf16) (harg8 : arg8.IsWhole) (arg9 : Memref sig .tc .vmem S1x16384 .f32) (harg9 : arg9.IsWhole) (arg10 : Memref sig .tc .vmem S80x16384 .f32) (harg10 : arg10.IsWhole) (arg11 : Memref sig .tc .vmem S512x512 .f32) (harg11 : arg11.IsWhole)
    (x0 : Vec F S1x4x64x4096 .bf16) (x1 : Vec F S1x1x8192x64 .bf16) (x2 : Vec F S1x1x80x8192 .bf16) (x3 : Vec F S2 .f32) (hc : ¬ small (flag arg6 (harg6.unread x3)) = 1#1) (y : S1x4096x256.Idx) :
    ∃ pc ∈ (kernelRunB c i arg3 harg3 arg4 harg4 arg5 harg5 arg6 harg6 arg7 harg7 arg8 harg8 arg9 harg9 arg10 harg10 arg11 harg11 x0 x1 x2 x3 hc).1, y ∈ pc.1.set :=
  View.cover_of_tiledL (kernelRunB c i arg3 harg3 arg4 harg4 arg5 harg5 arg6 harg6 arg7 harg7 arg8 harg8 arg9 harg9 arg10 harg10 arg11 harg11 x0 x1 x2 x3 hc).1 S1x4096x256.size (by sl_kernel_rfl) y

/-- One staging buffer of the result, through which its contents are stated. -/
abbrev VO : View sig .tc .vmem S1x4096x256 .bf16 := (Memref.whole cc0_stg4_0 : Memref sig .tc .vmem S1x4096x256 .bf16).view

open Classical in
/-- What the body leaves in the result's block: the pieces of whichever case the second shift word selects. -/
def out (c : Dev nD) (i : grid0.Coords) (arg3 : Memref sig .tc .vmem S1x4x64x4096 .bf16) (harg3 : arg3.IsWhole) (arg4 : Memref sig .tc .vmem S1x1x8192x64 .bf16) (harg4 : arg4.IsWhole) (arg5 : Memref sig .tc .vmem S1x1x80x8192 .bf16) (harg5 : arg5.IsWhole) (arg6 : Memref sig .tc .smem S2 .f32) (harg6 : arg6.IsWhole) (arg7 : Memref sig .tc .vmem S1x4096x256 .bf16) (harg7 : arg7.IsWhole) (arg8 : Memref sig .tc .vmem S64x16384 .bf16) (harg8 : arg8.IsWhole) (arg9 : Memref sig .tc .vmem S1x16384 .f32) (harg9 : arg9.IsWhole) (arg10 : Memref sig .tc .vmem S80x16384 .f32) (harg10 : arg10.IsWhole) (arg11 : Memref sig .tc .vmem S512x512 .f32) (harg11 : arg11.IsWhole)
    (x0 : Vec F S1x4x64x4096 .bf16) (x1 : Vec F S1x1x8192x64 .bf16) (x2 : Vec F S1x1x80x8192 .bf16) (x3 : Vec F S2 .f32) : Vec F S1x4096x256 .bf16 :=
  if hc : small (flag arg6 (harg6.unread x3)) = 1#1 then
    VO.read (Elt F) (VO.writes (Elt F) VO.junk (kernelRunA c i arg3 harg3 arg4 harg4 arg5 harg5 arg6 harg6 arg7 harg7 arg8 harg8 arg9 harg9 arg10 harg10 arg11 harg11 x0 x1 x2 x3 hc).1)
  else
    VO.read (Elt F) (VO.writes (Elt F) VO.junk (kernelRunB c i arg3 harg3 arg4 harg4 arg5 harg5 arg6 harg6 arg7 harg7 arg8 harg8 arg9 harg9 arg10 harg10 arg11 harg11 x0 x1 x2 x3 hc).1)

/-- The body in either case. -/
theorem kernelRun (c : Dev nD) (i : grid0.Coords) (arg3 : Memref sig .tc .vmem S1x4x64x4096 .bf16) (harg3 : arg3.IsWhole) (arg4 : Memref sig .tc .vmem S1x1x8192x64 .bf16) (harg4 : arg4.IsWhole) (arg5 : Memref sig .tc .vmem S1x1x80x8192 .bf16) (harg5 : arg5.IsWhole) (arg6 : Memref sig .tc .smem S2 .f32) (harg6 : arg6.IsWhole) (arg7 : Memref sig .tc .vmem S1x4096x256 .bf16) (harg7 : arg7.IsWhole) (arg8 : Memref sig .tc .vmem S64x16384 .bf16) (harg8 : arg8.IsWhole) (arg9 : Memref sig .tc .vmem S1x16384 .f32) (harg9 : arg9.IsWhole) (arg10 : Memref sig .tc .vmem S80x16384 .f32) (harg10 : arg10.IsWhole) (arg11 : Memref sig .tc .vmem S512x512 .f32) (harg11 : arg11.IsWhole)
    (x0 : Vec F S1x4x64x4096 .bf16) (x1 : Vec F S1x1x8192x64 .bf16) (x2 : Vec F S1x1x80x8192 .bf16) (x3 : Vec F S2 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out c i arg3 harg3 arg4 harg4 arg5 harg5 arg6 harg6 arg7 harg7 arg8 harg8 arg9 harg9 arg10 harg10 arg11 harg11 x0 x1 x2 x3)
                ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f)) -∗ K ⟨⟩))
          ⊢ wp frame (wpE (defs₀ (F := F)) Variants.none c none) E (cc0_mixer_c i arg3 harg3 arg4 harg4 arg5 harg5 arg6 harg6 arg7 harg7 arg8 harg8 arg9 harg9 arg10 harg10 arg11 harg11) K := by
  unfold out
  split
  · rename_i hc
    iintro ⟨H0, H1, H2, H3, H4, H8, H9, H10, H11, Hk⟩
    iapply ((kernelRunA c i arg3 harg3 arg4 harg4 arg5 harg5 arg6 harg6 arg7 harg7 arg8 harg8 arg9 harg9 arg10 harg10 arg11 harg11 x0 x1 x2 x3 hc).2 E K)
    isplitl [H0]; · iexact H0
    isplitl [H1]; · iexact H1
    isplitl [H2]; · iexact H2
    isplitl [H3]; · iexact H3
    isplitl [H4]; · iexact H4
    isplitl [H8]; · iexact H8
    isplitl [H9]; · iexact H9
    isplitl [H10]; · iexact H10
    isplitl [H11]; · iexact H11
    iintro ⟨H0, H1, H2, H3, ⟨%e4, H4⟩, HS⟩
    iapply Hk
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA c i arg3 harg3 arg4 harg4 arg5 harg5 arg6 harg6 arg7 harg7 arg8 harg8 arg9 harg9 arg10 harg10 arg11 harg11 x0 x1 x2 x3 hc)
    iexact HS
  · rename_i hc
    iintro ⟨H0, H1, H2, H3, H4, H8, H9, H10, H11, Hk⟩
    iapply ((kernelRunB c i arg3 harg3 arg4 harg4 arg5 harg5 arg6 harg6 arg7 harg7 arg8 harg8 arg9 harg9 arg10 harg10 arg11 harg11 x0 x1 x2 x3 hc).2 E K)
    isplitl [H0]; · iexact H0
    isplitl [H1]; · iexact H1
    isplitl [H2]; · iexact H2
    isplitl [H3]; · iexact H3
    isplitl [H4]; · iexact H4
    isplitl [H8]; · iexact H8
    isplitl [H9]; · iexact H9
    isplitl [H10]; · iexact H10
    isplitl [H11]; · iexact H11
    iintro ⟨H0, H1, H2, H3, ⟨%e4, H4⟩, HS⟩
    iapply Hk
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB c i arg3 harg3 arg4 harg4 arg5 harg5 arg6 harg6 arg7 harg7 arg8 harg8 arg9 harg9 arg10 harg10 arg11 harg11 x0 x1 x2 x3 hc)
    iexact HS

end Cert.KernelIdeal.Mixer

end
-- ==== Proof.Mixer.Frame.lean ====
/- The attention kernel's launch: the proof data of its pipeline, its body at every grid point, its run and its frame. -/
module

public import proofs.«01_k».proof.Proof.Mixer.Run
public import Idealize.ShloMosaic.Lib.Claim

@[expose] public section

set_option maxRecDepth 16384

noncomputable section

namespace Cert.KernelIdeal.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The staging memref of each window at point `t`, and that it is whole. -/
abbrev ms0 (t : Fin cfg0.N) : Memref sig .tc .vmem S1x4x64x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x8192x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x80x8192 .bf16 := win0_2.stage (cfg0.slots t 2)
abbrev hs2 (t : Fin cfg0.N) : (ms2 t).IsWhole := hstage0_2 ((cfg0.slots t 2).cast nbuf0_2)
abbrev ms3 (t : Fin cfg0.N) : Memref sig .tc .smem S2 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4096x256 .bf16 := win0_4.stage (cfg0.slots t 4)
abbrev hs4 (t : Fin cfg0.N) : (ms4 t).IsWhole := hstage0_4 ((cfg0.slots t 4).cast nbuf0_4)

/-- The scratch operands: whole scoped buffers of the kernel's own. -/
abbrev sc0 : Memref sig .tc .vmem S64x16384 .bf16 := Memref.whole cc0_scratch0
abbrev sc1 : Memref sig .tc .vmem S1x16384 .f32 := Memref.whole cc0_scratch1
abbrev sc2 : Memref sig .tc .vmem S80x16384 .f32 := Memref.whole cc0_scratch2
abbrev sc3 : Memref sig .tc .vmem S512x512 .f32 := Memref.whole cc0_scratch3

/-- The pipeline's invariant with the scratch operands as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- What the result's staging buffer holds after the body at point `t`. -/
def outsAt (c : Dev nD) (t : Fin cfg0.N) : Vec F S1x4096x256 .bf16 :=
  out c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (iblk m c 0 t) (iblk m c 1 t) (iblk m c 2 t) (iblk m c 3 t)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outsAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is called with at point `t`, the windows one by one, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = Pipeline.ΦA spec0 c from rfl, PhiA_eq]
  unfold outsAt
  iintro ⟨⟨⟨HS0, HS1, HS2, HS3⟩, Hg⟩, Ho, ⟨%d0, H0⟩, ⟨%d1, H1⟩, ⟨%d2, H2⟩, ⟨%d3, H3⟩, ⟨%d4, H4⟩⟩
  iapply (kernelRun c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, H4, ⟨%g0, HS0⟩, ⟨%g1, HS1⟩, ⟨%g2, HS2⟩, ⟨%g3, HS3⟩⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      iexists _; unfold owns; iexists _; isplitr
      swap; · iexact HS3
      ipureintro; rfl
    iexact Hg
  isplitl [Ho]; · iexact Ho
  isplitl [H0]; · iexact H0
  isplitl [H1]; · iexact H1
  isplitl [H2]; · iexact H2
  isplitl [H3]; · iexact H3
  iexact H4

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every final state has the pipeline's arrays at the proof data's contents and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged and every semaphore counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Mixer

end
-- ==== Proof.Mixer.Softmax.lean ====
/-
  Softmax over extended reals: a quotient of two sums of exponentials does not depend on the number that is
  subtracted in the exponents, as long as it is real; and what a running maximum leaves.
-/
module

public import Idealize.ShloMosaic.PureOps.Ideal
public import Mathlib.Data.EReal.Operations
public import Mathlib.Analysis.SpecialFunctions.Pow.Real

@[expose] public section

noncomputable section

namespace Cert.Softmax

open Idealize.ShloMosaic
open scoped BigOperators

/-- A nonnegative real factor goes into a sum of extended reals. -/
theorem mul_sum {ι : Type} (s : Finset ι) (a : ℝ) (ha : 0 ≤ a) (f : ι → EReal) :
    (a : EReal) * ∑ t ∈ s, f t = ∑ t ∈ s, (a : EReal) * f t := by
  classical
  induction s using Finset.induction_on with
  | empty => simp
  | insert i s hi ih =>
    rw [Finset.sum_insert hi, Finset.sum_insert hi, ← ih]
    exact EReal.left_distrib_of_nonneg_of_ne_top (EReal.coe_nonneg.2 ha) (EReal.coe_ne_top a) _ _

/-- A sum of reals, read as an extended real. -/
theorem coe_sum {ι : Type} (s : Finset ι) (f : ι → ℝ) : ((∑ t ∈ s, f t : ℝ) : EReal) = ∑ t ∈ s, (f t : EReal) := by
  classical
  induction s using Finset.induction_on with
  | empty => simp
  | insert i s hi ih => rw [Finset.sum_insert hi, Finset.sum_insert hi, EReal.coe_add, ih]

/-- The greatest of finitely many reals is real. -/
theorem fold_max_real {n : ℕ} (hn : 0 < n) (f : Fin n → ℝ) :
    ∃ M : ℝ, Finset.fold max (⊥ : EReal) (fun t => (f t : EReal)) Finset.univ = (M : EReal) := by
  obtain ⟨i, _, hi⟩ := Finset.exists_mem_eq_sup Finset.univ ⟨(⟨0, hn⟩ : Fin n), Finset.mem_univ _⟩ (fun t => (f t : EReal))
  exact ⟨f i, hi⟩

/-- The word of minus infinity. -/
theorem neg_inf : Ideal.ofBits .f32 4286578688#32 = ⊥ := by
  simp [Ideal.ofBits, Ideal.ieee]

/-- The power of two of a scaled score, shifted by a real, is an exponential of the score over eight. -/
theorem exp2_scaled (x μ : ℝ) :
    Ideal.exp2 (((x * (8 * Real.log 2)⁻¹ : ℝ) : EReal) - (μ : EReal)) = ((Real.exp (x * (1 / 8) - μ * Real.log 2) : ℝ) : EReal) := by
  rw [← EReal.coe_sub]
  show ((Real.rpow 2 _ : ℝ) : EReal) = _
  have h2 : Real.log 2 ≠ 0 := (Real.log_pos (by norm_num)).ne'
  congr 1
  show (2 : ℝ) ^ (_ : ℝ) = _
  rw [Real.rpow_def_of_pos (by norm_num)]
  congr 1
  field_simp

/-- The difference of two reals under the power of two is a nonnegative real. -/
theorem exp2_sub (a b : ℝ) : Ideal.exp2 ((a : EReal) - (b : EReal)) = (((2 : ℝ) ^ (a - b) : ℝ) : EReal) := by
  rw [← EReal.coe_sub]; rfl

/-- A weighted mean with weights `exp (s - ν)` is the same for every real `ν`, normalised before or after the sum. -/
theorem shift {n : ℕ} (hn : 0 < n) (s : Fin n → ℝ) (ν M : ℝ) (w : Fin n → EReal) :
    Ideal.div (∑ t, w t * ((Real.exp (s t - ν) : ℝ) : EReal)) (∑ t, ((Real.exp (s t - ν) : ℝ) : EReal))
      = ∑ t, w t * Ideal.div ((Real.exp (s t - M) : ℝ) : EReal) (∑ u, ((Real.exp (s u - M) : ℝ) : EReal)) := by
  have pos : ∀ ξ : ℝ, 0 < ∑ t, Real.exp (s t - ξ) := fun ξ =>
    Finset.sum_pos (fun t _ => Real.exp_pos _) ⟨⟨0, hn⟩, Finset.mem_univ _⟩
  have div_eq : ∀ (x : EReal) (z : ℝ), 0 < z → Ideal.div x (z : EReal) = ((z⁻¹ : ℝ) : EReal) * x := fun x z hz => by
    rw [Ideal.div, if_neg (by exact_mod_cast hz.ne'), mul_comm, EReal.coe_inv]
  rw [← coe_sum, ← coe_sum, div_eq _ _ (pos ν), mul_sum _ _ (inv_nonneg.2 (pos ν).le)]
  refine Finset.sum_congr rfl fun t _ => ?_
  rw [div_eq _ _ (pos M), mul_left_comm, ← EReal.coe_mul, ← EReal.coe_mul]
  congr 2
  have e : ∀ u, Real.exp (s u - ν) = Real.exp (M - ν) * Real.exp (s u - M) := fun u => by
    rw [← Real.exp_add]; congr 1; ring
  simp only [e, ← Finset.mul_sum]
  have hp := (pos M).ne'
  have hq := (Real.exp_pos (M - ν)).ne'
  field_simp

/-! ### The running maximum -/

/-- The maximum of the first `n` blocks of scores. -/
def top (s : ℕ → Fin 512 → EReal) : ℕ → EReal
  | 0 => ⊥
  | n + 1 => max (top s n) (Finset.fold max (⊥ : EReal) (s n) Finset.univ)

theorem top_succ (s : ℕ → Fin 512 → EReal) (n : ℕ) : top s (n + 1) = max (top s n) (Finset.fold max (⊥ : EReal) (s n) Finset.univ) := rfl

/-- The sum over the first `n` blocks of values times powers of two of scores less `μ`. -/
def weighed (s v : ℕ → Fin 512 → EReal) (μ : EReal) (n : ℕ) : EReal :=
  ∑ b ∈ Finset.range n, ∑ j, v b j * Ideal.exp2 (s b j - μ)

/-- The maximum of one block or more of real scores is real. -/
theorem top_real (x : ℕ → Fin 512 → ℝ) : ∀ n : ℕ, ∃ μ : ℝ, top (fun b j => (x b j : EReal)) (n + 1) = (μ : EReal)
  | 0 => by
    obtain ⟨M, hM⟩ := fold_max_real (by norm_num) (x 0)
    exact ⟨M, by simp only [top, hM, bot_le, max_eq_right]⟩
  | n + 1 => by
    obtain ⟨M, hM⟩ := fold_max_real (by norm_num) (x (n + 1))
    obtain ⟨μ, hμ⟩ := top_real x n
    exact ⟨max μ M, by rw [top, hμ, hM]; exact (EReal.coe_strictMono.monotone.map_max).symm⟩

/-- Rescaling the sum of the blocks so far to the new maximum, and adding the next block, gives the sum up to it. -/
theorem weighed_succ (x : ℕ → Fin 512 → ℝ) (v : ℕ → Fin 512 → EReal) (n : ℕ) :
    let s : ℕ → Fin 512 → EReal := fun b j => (x b j : EReal)
    Ideal.exp2 (top s n - top s (n + 1)) * weighed s v (top s n) n + ∑ j, v n j * Ideal.exp2 (s n j - top s (n + 1))
      = weighed s v (top s (n + 1)) (n + 1) := by
  intro s
  rw [weighed, weighed, Finset.sum_range_succ]
  congr 1
  cases n with
  | zero => simp
  | succ n =>
    obtain ⟨μ, hμ⟩ := top_real x n
    obtain ⟨μ', hμ'⟩ := top_real x (n + 1)
    show Ideal.exp2 (top s (n + 1) - top s (n + 1 + 1)) * _ = _
    rw [show top s (n + 1) = μ from hμ, show top s (n + 1 + 1) = μ' from hμ', exp2_sub, mul_sum _ _ (by positivity)]
    refine Finset.sum_congr rfl fun b _ => ?_
    rw [mul_sum _ _ (by positivity)]
    refine Finset.sum_congr rfl fun j _ => ?_
    show _ * (v b j * Ideal.exp2 ((x b j : EReal) - μ)) = v b j * Ideal.exp2 ((x b j : EReal) - μ')
    rw [exp2_sub, exp2_sub, mul_left_comm, ← EReal.coe_mul, ← Real.rpow_add (by norm_num)]
    congr 3
    ring

end Cert.Softmax

end
-- ==== Proof.Mixer.Trip.lean ====
/-
  One block of keys against one block of queries: what a loop trip stores, element by element.
-/
module

public import proofs.«01_k».proof.Proof.Mixer.Frame
public import proofs.«01_k».proof.Proof.Mixer.Softmax
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Mixer

open Cert.KernelIdeal Cert.KernelIdeal.Gen
open Idealize.ShloMosaic Idealize.ShloMosaic.TcCoe Idealize.ShloMosaic.Tactic
open scoped BigOperators

/-- Key `j` of block `b`. -/
def key (b : ℕ) (j : Fin 512) : Fin 8192 := ⟨(512 * b + j) % 8192, Nat.mod_lt _ (by norm_num)⟩

/-- The score of key `n` against query column `q`. -/
def score (K : S1x1x8192x64.Idx → EReal) (Q : S64x16384.Idx → EReal) (n : Fin 8192) (q : Fin 16384) : EReal :=
  ∑ d : Fin 64, K (ix4 0 0 n d) * Q (ix2 d q)

/-- The offsets of the blocks that trip `k` loads. -/
theorem off_keys : ∀ k : Fin k0_t1_loop.trips, k0_off1 k = ![0, 0, 512 * k.val, 0] := by decide +kernel
theorem off_values : ∀ k : Fin k0_t1_loop.trips, k0_off2 k = ![0, 0, 0, 512 * k.val] := by decide +kernel
theorem off_next : ∀ k : Fin k0_t1_loop.trips, k0_off3 k = ![0, 0, 512 * min (k.val + 1) 15, 0] := by decide +kernel
theorem off_values' : ∀ k : Fin k0_t2_loop.trips, k0_off5 k = ![0, 0, 0, 512 * k.val] := by decide +kernel
theorem off_next' : ∀ k : Fin k0_t2_loop.trips, k0_off6 k = ![0, 0, 512 * min (k.val + 1) 15, 0] := by decide +kernel
theorem off_keys' : ∀ k : Fin k0_t2_loop.trips, k0_off4 k = ![0, 0, 512 * k.val, 0] := by decide +kernel

/-- A product of a block of keys with a block of query columns, read at an element. -/
theorem scores_apply (a : Vec Ideal S1x1x512x64 .bf16) (b : Vec Ideal S64x512 .bf16) (j q : Fin 512) :
    k0_pay5 (F := Ideal) a b (ix2 j q) = ∑ d : Fin 64, a (ix4 0 0 j d) * b (ix2 d q) := by
  pointwise [k0_pay5, k0_pay2]

/-- A step of the fixed shift, read at an element. -/
theorem step_apply (a : Vec Ideal S1x1x80x512 .bf16) (s : Vec Ideal S512x512 .f32) (acc : Vec Ideal S80x512 .f32) (b : Elt Ideal .f32)
    (r : Fin 80) (q : Fin 512) :
    k0_pay4 (F := Ideal) a s acc b (ix2 r q) = acc (ix2 r q) + ∑ x : Fin 512, a (ix4 0 0 r x) * Ideal.exp2 (s (ix2 x q) - b) := by
  pointwise [k0_pay4, k0_pay3]
  rfl

/-- A step of the running maximum, read at an element: the new maximum and the rescaled sums. -/
theorem max_apply (s : Vec Ideal S512x512 .f32) (m : Vec Ideal S1x512 .f32) (q : Fin 512) :
    k0_pay104 (F := Ideal) s m (ix2 0 q) = max (m (ix2 0 q)) (Finset.fold max (⊥ : EReal) (fun x : Fin 512 => s (ix2 x q)) Finset.univ) := by
  rw [← Softmax.neg_inf]
  pointwise [k0_pay104, k0_pay102]

theorem rescale_apply (a : Vec Ideal S1x1x80x512 .bf16) (s : Vec Ideal S512x512 .f32) (m : Vec Ideal S1x512 .f32) (acc : Vec Ideal S80x512 .f32)
    (r : Fin 80) (q : Fin 512) :
    k0_pay103 (F := Ideal) (k0_pay3 a) s m acc (ix2 r q)
      = Ideal.exp2 (m (ix2 0 q) - k0_pay104 (F := Ideal) s m (ix2 0 q)) * acc (ix2 r q)
        + ∑ x : Fin 512, a (ix4 0 0 r x) * Ideal.exp2 (s (ix2 x q) - k0_pay104 (F := Ideal) s m (ix2 0 q)) := by
  pointwise [k0_pay103, k0_pay104, k0_pay102, k0_pay3]
  rfl

section
variable {sig' : RefSig} (v4 : View sig' .tc .vmem S1x1x8192x64 .bf16) (X4 : v4.ty.Contents (Elt Ideal))
  (v5 : View sig' .tc .vmem S1x1x80x8192 .bf16) (X5 : v5.ty.Contents (Elt Ideal))
  (v8 : View sig' .tc .vmem S64x16384 .bf16) (X8 : v8.ty.Contents (Elt Ideal))
  (v10 : View sig' .tc .vmem S80x16384 .f32) (f10 : v10.ty.Contents (Elt Ideal))
  (v9 : View sig' .tc .vmem S1x16384 .f32) (f9 : v9.ty.Contents (Elt Ideal))

/-- A product of a loaded block of keys with loaded query columns holds scores. -/
theorem scores_block (off : Fin 4 → ℕ) (b o : ℕ) (hb : b < 16) (hoff : off = ![0, 0, 512 * b, 0])
    (i4 : ∀ a, off a + S1x1x512x64.size a ≤ S1x1x8192x64.size a) (i8 : ∀ a, (![0, o] : Fin 2 → ℕ) a + S64x512.size a ≤ S64x16384.size a)
    (j q : Fin 512) (hq : o + q.val < 16384) :
    k0_pay5 (F := Ideal) (View.readAt (Elt Ideal) v4 (Rect.unit (s := S1x1x8192x64) off S1x1x512x64.size i4).toLoadRect X4)
      (View.readAt (Elt Ideal) v8 (Rect.unit (s := S64x16384) ![0, o] S64x512.size i8).toLoadRect X8) (ix2 j q)
      = score (v4.read (Elt Ideal) X4) (v8.read (Elt Ideal) X8) (key b j) ⟨o + q, hq⟩ := by
  subst hoff
  have hk : key b j = ⟨512 * b + j, by omega⟩ := Fin.ext (Nat.mod_eq_of_lt (by omega))
  rw [scores_apply, score, hk]
  refine Finset.sum_congr rfl fun d _ => ?_
  rw [View.readAt_eq_ld, View.readAt_eq_ld]
  congr 1
  · refine congrArg (v4.read (Elt Ideal) X4) ?_
    idx_ext
  · refine congrArg (v8.read (Elt Ideal) X8) ?_
    idx_ext

/-- What a step of the fixed shift `b` with key block `k` makes of the sums `f10`. -/
def stepped (k : ℕ) (b : EReal) (y : S80x16384.Idx) : EReal :=
  v10.read (Elt Ideal) f10 y
    + ∑ x : Fin 512, v5.read (Elt Ideal) X5 (ix4 0 0 (y 0) (key k x)) * Ideal.exp2 (score (v4.read (Elt Ideal) X4) (v8.read (Elt Ideal) X8) (key k x) (y 1) - b)

/-- A stored piece of a step is a block of `stepped`. -/
theorem step_block (off : Fin 4 → ℕ) (k o : ℕ) (hk : k < 16) (ho : o + 512 ≤ 16384) (hoff : off = ![0, 0, 0, 512 * k])
    (i5 : ∀ a, off a + S1x1x80x512.size a ≤ S1x1x80x8192.size a) (i10 : ∀ a, (![0, o] : Fin 2 → ℕ) a + S80x512.size a ≤ S80x16384.size a)
    (s : Vec Ideal S512x512 .f32) (b : Elt Ideal .f32)
    (hs : ∀ j q : Fin 512, s (ix2 j q) = score (v4.read (Elt Ideal) X4) (v8.read (Elt Ideal) X8) (key k j) ⟨o + q, by omega⟩)
    (y : S80x512.Idx) :
    k0_pay4 (F := Ideal) (View.readAt (Elt Ideal) v5 (Rect.unit (s := S1x1x80x8192) off S1x1x80x512.size i5).toLoadRect X5) s
      (View.readAt (Elt Ideal) v10 (Rect.unit (s := S80x16384) ![0, o] S80x512.size i10).toLoadRect f10) b y
      = stepped v4 X4 v5 X5 v8 X8 v10 f10 k b ((Rect.unit (s := S80x16384) ![0, o] S80x512.size i10).emb y) := by
  subst hoff
  idx_vars y
  have he : (Rect.unit (s := S80x16384) ![0, o] S80x512.size i10).emb (ix2 y0 y1) = ix2 y0 ⟨o + y1, by omega⟩ := by idx_ext
  rw [step_apply, stepped]
  congr 1
  refine Finset.sum_congr rfl fun x _ => ?_
  have hkey : key k x = ⟨512 * k + x, by omega⟩ := Fin.ext (Nat.mod_eq_of_lt (by omega))
  rw [hs, View.readAt_eq_ld]
  congr 1
  · refine congrArg (v5.read (Elt Ideal) X5) ?_
    rw [hkey]
    idx_ext
  · rw [he]; rfl

/-- The maxima `f9`, with key block `k` counted in. -/
def topped (k : ℕ) (y : S1x16384.Idx) : EReal :=
  max (v9.read (Elt Ideal) f9 y)
    (Finset.fold max (⊥ : EReal) (fun x : Fin 512 => score (v4.read (Elt Ideal) X4) (v8.read (Elt Ideal) X8) (key k x) (y 1)) Finset.univ)

/-- The sums `f10`, rescaled to the maxima `topped` and with key block `k` counted in. -/
def rescaled (k : ℕ) (y : S80x16384.Idx) : EReal :=
  Ideal.exp2 (v9.read (Elt Ideal) f9 (ix2 0 (y 1)) - topped v4 X4 v8 X8 v9 f9 k (ix2 0 (y 1))) * v10.read (Elt Ideal) f10 y
    + ∑ x : Fin 512, v5.read (Elt Ideal) X5 (ix4 0 0 (y 0) (key k x))
        * Ideal.exp2 (score (v4.read (Elt Ideal) X4) (v8.read (Elt Ideal) X8) (key k x) (y 1) - topped v4 X4 v8 X8 v9 f9 k (ix2 0 (y 1)))

/-- A stored piece of the maxima is a block of `topped`. -/
theorem max_block (k o : ℕ) (ho : o + 512 ≤ 16384) (i9 : ∀ a, (![0, o] : Fin 2 → ℕ) a + S1x512.size a ≤ S1x16384.size a)
    (s : Vec Ideal S512x512 .f32)
    (hs : ∀ j q : Fin 512, s (ix2 j q) = score (v4.read (Elt Ideal) X4) (v8.read (Elt Ideal) X8) (key k j) ⟨o + q, by omega⟩)
    (y : S1x512.Idx) :
    k0_pay104 (F := Ideal) s (View.readAt (Elt Ideal) v9 (Rect.unit (s := S1x16384) ![0, o] S1x512.size i9).toLoadRect f9) y
      = topped v4 X4 v8 X8 v9 f9 k ((Rect.unit (s := S1x16384) ![0, o] S1x512.size i9).emb y) := by
  idx_vars y
  obtain rfl : y0 = 0 := Subsingleton.elim _ _
  have he : (Rect.unit (s := S1x16384) ![0, o] S1x512.size i9).emb (ix2 0 y1) = ix2 0 ⟨o + y1, by omega⟩ := by idx_ext
  rw [max_apply, topped, View.readAt_eq_ld]
  congr 1
  rw [he]
  simp only [hs]
  rfl

/-- A stored piece of the sums is a block of `rescaled`. -/
theorem rescale_block (off : Fin 4 → ℕ) (k o : ℕ) (hk : k < 16) (ho : o + 512 ≤ 16384) (hoff : off = ![0, 0, 0, 512 * k])
    (i5 : ∀ a, off a + S1x1x80x512.size a ≤ S1x1x80x8192.size a) (i9 : ∀ a, (![0, o] : Fin 2 → ℕ) a + S1x512.size a ≤ S1x16384.size a)
    (i10 : ∀ a, (![0, o] : Fin 2 → ℕ) a + S80x512.size a ≤ S80x16384.size a)
    (s : Vec Ideal S512x512 .f32)
    (hs : ∀ j q : Fin 512, s (ix2 j q) = score (v4.read (Elt Ideal) X4) (v8.read (Elt Ideal) X8) (key k j) ⟨o + q, by omega⟩)
    (y : S80x512.Idx) :
    k0_pay103 (F := Ideal) (k0_pay3 (View.readAt (Elt Ideal) v5 (Rect.unit (s := S1x1x80x8192) off S1x1x80x512.size i5).toLoadRect X5)) s
      (View.readAt (Elt Ideal) v9 (Rect.unit (s := S1x16384) ![0, o] S1x512.size i9).toLoadRect f9)
      (View.readAt (Elt Ideal) v10 (Rect.unit (s := S80x16384) ![0, o] S80x512.size i10).toLoadRect f10) y
      = rescaled v4 X4 v5 X5 v8 X8 v10 f10 v9 f9 k ((Rect.unit (s := S80x16384) ![0, o] S80x512.size i10).emb y) := by
  subst hoff
  idx_vars y
  have he : (Rect.unit (s := S80x16384) ![0, o] S80x512.size i10).emb (ix2 y0 y1) = ix2 y0 ⟨o + y1, by omega⟩ := by idx_ext
  have he9 : (Rect.unit (s := S1x16384) ![0, o] S1x512.size i9).emb (ix2 0 y1) = ix2 0 ⟨o + y1, by omega⟩ := by idx_ext
  rw [rescale_apply, rescaled, max_block v4 X4 v8 X8 v9 f9 k o ho i9 s hs, he9, he, View.readAt_eq_ld, View.readAt_eq_ld, View.readAt_eq_ld]
  refine congrArg₂ (· + ·) ?_ (Finset.sum_congr rfl fun x _ => ?_)
  · refine congrArg₂ (fun a b => Ideal.exp2 (a - topped v4 X4 v8 X8 v9 f9 k (ix2 0 ⟨o + y1, by omega⟩)) * b) ?_ ?_
    · exact congrArg (v9.read (Elt Ideal) f9) he9
    · exact congrArg (v10.read (Elt Ideal) f10) he
  · have hkey : key k x = ⟨512 * k + x, by omega⟩ := Fin.ext (Nat.mod_eq_of_lt (by omega))
    rw [hs]
    refine congrArg (fun a => a * Ideal.exp2 (score (v4.read (Elt Ideal) X4) (v8.read (Elt Ideal) X8) (key k x) ⟨o + y1, by omega⟩ - topped v4 X4 v8 X8 v9 f9 k (ix2 0 ⟨o + y1, by omega⟩))) ?_
    refine congrArg (v5.read (Elt Ideal) X5) ?_
    rw [hkey]
    idx_ext

/-- The scores of key block `k` against the first columns, one of the two arrays that a trip hands to the next. -/
def head (K : S1x1x8192x64.Idx → EReal) (Q : S64x16384.Idx → EReal) (k : ℕ) (y : S512x512.Idx) : EReal :=
  score K Q (key k (y 0)) ⟨0 + (y 1).val, by have := (y 1).isLt; have : (y 1).val < 512 := this; omega⟩

/-- The piece that a trip stores for the next one is all of `head`. -/
theorem head_block (off : Fin 4 → ℕ) (b : ℕ) (hb : b < 16) (hoff : off = ![0, 0, 512 * b, 0])
    (i4 : ∀ a, off a + S1x1x512x64.size a ≤ S1x1x8192x64.size a) (i8 : ∀ a, (![0, 0] : Fin 2 → ℕ) a + S64x512.size a ≤ S64x16384.size a)
    (i11 : ∀ a, (![0, 0] : Fin 2 → ℕ) a + S512x512.size a ≤ S512x512.size a) (h : S512x512.ShapeCasts S512x512) (y : S512x512.Idx) :
    shapeCast S512x512 (k0_pay5 (F := Ideal) (View.readAt (Elt Ideal) v4 (Rect.unit (s := S1x1x8192x64) off S1x1x512x64.size i4).toLoadRect X4)
      (View.readAt (Elt Ideal) v8 (Rect.unit (s := S64x16384) ![0, 0] S64x512.size i8).toLoadRect X8)) h y
      = head (v4.read (Elt Ideal) X4) (v8.read (Elt Ideal) X8) b ((Rect.unit (s := S512x512) ![0, 0] S512x512.size i11).emb y) := by
  idx_vars y
  have he : (Rect.unit (s := S512x512) ![0, 0] S512x512.size i11).emb (ix2 y0 y1) = ix2 y0 y1 := by idx_ext
  rw [he]
  pointwise
  exact scores_block v4 X4 v8 X8 off b 0 hb hoff i4 i8 y0 y1 (by omega)

end

end Cert.KernelIdeal.Mixer

end
-- ==== Proof.Mixer.TripA.lean ====
/-
  A trip of the loop with the fixed shift: what the sums and the stored scores are after it.
-/
module

public import proofs.«01_k».proof.Proof.Mixer.Trip

@[expose] public section

set_option maxRecDepth 16384

noncomputable section

namespace Cert.KernelIdeal.Mixer

open Cert.KernelIdeal Cert.KernelIdeal.Gen
open Idealize.ShloMosaic Idealize.ShloMosaic.TcCoe Idealize.ShloMosaic.Tactic
open scoped BigOperators

/-- The fixed shift as the kernel loads it. -/
def fixed (arg6 : Memref sig .tc .smem S2 .f32) (f : BufTy.Contents (Elt Ideal) arg6.view.ty) : Elt Ideal .f32 :=
  View.readAt (Elt Ideal) arg6.view (Rect.unit (s := S2) ![0] S1.size inb_S2_S1_0).toLoadRect f (Shape.Idx.first (numel1_S1.symm ▸ Nat.one_pos))

variable (c : Dev nD) (i : grid0.Coords) (arg3 : Memref sig .tc .vmem S1x4x64x4096 .bf16) (harg3 : arg3.IsWhole) (arg4 : Memref sig .tc .vmem S1x1x8192x64 .bf16) (harg4 : arg4.IsWhole) (arg5 : Memref sig .tc .vmem S1x1x80x8192 .bf16) (harg5 : arg5.IsWhole) (arg6 : Memref sig .tc .smem S2 .f32) (harg6 : arg6.IsWhole) (arg7 : Memref sig .tc .vmem S1x4096x256 .bf16) (harg7 : arg7.IsWhole) (arg8 : Memref sig .tc .vmem S64x16384 .bf16) (harg8 : arg8.IsWhole) (arg9 : Memref sig .tc .vmem S1x16384 .f32) (harg9 : arg9.IsWhole) (arg10 : Memref sig .tc .vmem S80x16384 .f32) (harg10 : arg10.IsWhole) (arg11 : Memref sig .tc .vmem S512x512 .f32) (harg11 : arg11.IsWhole)
  (v27 : FVec Ideal S64x4096 .bf16) (X4 : BufTy.Contents (Elt Ideal) arg4.view.ty) (X5 : BufTy.Contents (Elt Ideal) arg5.view.ty)
  (X6 : BufTy.Contents (Elt Ideal) arg6.view.ty) (X8 : BufTy.Contents (Elt Ideal) arg8.view.ty)

/-- Every piece that the trip stores into the sums is a block of `stepped`. -/
theorem tripA_pieces (k : Fin k0_t1_loop.trips) (f10 : BufTy.Contents (Elt Ideal) arg10.view.ty) (f11 : BufTy.Contents (Elt Ideal) arg11.view.ty)
    (h11 : ∀ y : S512x512.Idx, arg11.view.read (Elt Ideal) f11 y = head (arg4.view.read (Elt Ideal) X4) (arg8.view.read (Elt Ideal) X8) k y) :
    View.PiecesOf (Val := Elt Ideal) (stepped arg4.view X4 arg5.view X5 arg8.view X8 arg10.view f10 k (fixed arg6 X6))
      (tripL_k0_t1 (F := Ideal) Variants.none c none i arg3 harg3 arg4 harg4 arg5 harg5 arg6 harg6 arg7 harg7 arg8 harg8 arg9 harg9 arg10 harg10 arg11 harg11 v27 X4 X5 X6 X8 k f10 f11).1 := by
  have hk : k.val < 16 := k.isLt
  have hS : ∀ (o : ℕ) (ho : o + 512 ≤ 16384) (i8 : ∀ a, (![0, o] : Fin 2 → ℕ) a + S64x512.size a ≤ S64x16384.size a) (j q : Fin 512), _ :=
    fun o ho i8 j q => scores_block arg4.view X4 arg8.view X8 (k0_off1 k) k o hk (off_keys k) (k0_off1_inb k) i8 j q (by omega)
  have h0 : ∀ j q : Fin 512, View.readAt (Elt Ideal) arg11.view (Rect.unit (s := S512x512) ![0, 0] S512x512.size inb_S512x512_S512x512_0_0).toLoadRect f11 (ix2 j q)
      = score (arg4.view.read (Elt Ideal) X4) (arg8.view.read (Elt Ideal) X8) (key k j) ⟨0 + q, by omega⟩ := fun j q => by
    rw [View.readAt_eq_ld]
    refine Eq.trans (congrArg (arg11.view.read (Elt Ideal) f11) ?_) (h11 (ix2 j q))
    idx_ext
  unfold tripL_k0_t1
  unfold trip_k0_t1
  dsimp only
  sl_unfold_words
  iterate 31 refine ⟨fun x => step_block arg4.view X4 arg5.view X5 arg8.view X8 arg10.view f10 _ k _ hk (by omega) (off_values k) _ _ _ _ (hS _ (by omega) _) x, ?_⟩
  exact ⟨fun x => step_block arg4.view X4 arg5.view X5 arg8.view X8 arg10.view f10 _ k _ hk (by omega) (off_values k) _ _ _ _ h0 x, trivial⟩

/-- The pieces stored into the sums cover them. -/
theorem tripA_cover (k : Fin k0_t1_loop.trips) (f10 : BufTy.Contents (Elt Ideal) arg10.view.ty) (f11 : BufTy.Contents (Elt Ideal) arg11.view.ty)
    (y : S80x16384.Idx) :
    ∃ p ∈ (tripL_k0_t1 (F := Ideal) Variants.none c none i arg3 harg3 arg4 harg4 arg5 harg5 arg6 harg6 arg7 harg7 arg8 harg8 arg9 harg9 arg10 harg10 arg11 harg11 v27 X4 X5 X6 X8 k f10 f11).1, y ∈ p.1.set :=
  View.cover_of_tiledL _ ![80, 512] (by sl_kernel_rfl) y

/-- The sums after the trip. -/
theorem tripA_sums (k : Fin k0_t1_loop.trips) (f10 : BufTy.Contents (Elt Ideal) arg10.view.ty) (f11 : BufTy.Contents (Elt Ideal) arg11.view.ty)
    (h11 : ∀ y : S512x512.Idx, arg11.view.read (Elt Ideal) f11 y = head (arg4.view.read (Elt Ideal) X4) (arg8.view.read (Elt Ideal) X8) k y) (y : S80x16384.Idx) :
    arg10.view.read (Elt Ideal) (arg10.view.writes (Elt Ideal) f10 (tripL_k0_t1 (F := Ideal) Variants.none c none i arg3 harg3 arg4 harg4 arg5 harg5 arg6 harg6 arg7 harg7 arg8 harg8 arg9 harg9 arg10 harg10 arg11 harg11 v27 X4 X5 X6 X8 k f10 f11).1) y
      = stepped arg4.view X4 arg5.view X5 arg8.view X8 arg10.view f10 k (fixed arg6 X6) y :=
  View.read_writes_apply_of_pieces _ _ _ _ (tripA_pieces c i arg3 harg3 arg4 harg4 arg5 harg5 arg6 harg6 arg7 harg7 arg8 harg8 arg9 harg9 arg10 harg10 arg11 harg11 v27 X4 X5 X6 X8 k f10 f11 h11).mem y
    (tripA_cover c i arg3 harg3 arg4 harg4 arg5 harg5 arg6 harg6 arg7 harg7 arg8 harg8 arg9 harg9 arg10 harg10 arg11 harg11 v27 X4 X5 X6 X8 k f10 f11 y)

/-- The stored scores after the trip: those of the next block of keys. -/
theorem tripA_head (k : Fin k0_t1_loop.trips) (f10 : BufTy.Contents (Elt Ideal) arg10.view.ty) (f11 : BufTy.Contents (Elt Ideal) arg11.view.ty)
    (y : S512x512.Idx) :
    arg11.view.read (Elt Ideal) (arg11.view.writes (Elt Ideal) f11 (tripL_k0_t1 (F := Ideal) Variants.none c none i arg3 harg3 arg4 harg4 arg5 harg5 arg6 harg6 arg7 harg7 arg8 harg8 arg9 harg9 arg10 harg10 arg11 harg11 v27 X4 X5 X6 X8 k f10 f11).2) y
      = head (arg4.view.read (Elt Ideal) X4) (arg8.view.read (Elt Ideal) X8) (min (k.val + 1) 15) y := by
  refine View.read_writes_apply_of_pieces _ _ _ _ (View.PiecesOf.mem ?_) y (View.cover_of_tiledL _ ![512, 512] (by sl_kernel_rfl) y)
  unfold tripL_k0_t1
  unfold trip_k0_t1
  dsimp only
  sl_unfold_words
  exact ⟨fun x => head_block arg4.view X4 arg8.view X8 (k0_off3 k) _ (by omega) (off_next k) (k0_off3_inb k) _ (by decide) _ x, trivial⟩

end Cert.KernelIdeal.Mixer

end
-- ==== Proof.Mixer.TripB.lean ====
/-
  A trip of the loop with the running maximum: what the maxima, the sums and the stored scores are after it.
-/
module

public import proofs.«01_k».proof.Proof.Mixer.Trip

@[expose] public section

set_option maxRecDepth 16384

noncomputable section

namespace Cert.KernelIdeal.Mixer

open Cert.KernelIdeal Cert.KernelIdeal.Gen
open Idealize.ShloMosaic Idealize.ShloMosaic.TcCoe Idealize.ShloMosaic.Tactic
open scoped BigOperators

variable (c : Dev nD) (i : grid0.Coords) (arg3 : Memref sig .tc .vmem S1x4x64x4096 .bf16) (harg3 : arg3.IsWhole) (arg4 : Memref sig .tc .vmem S1x1x8192x64 .bf16) (harg4 : arg4.IsWhole) (arg5 : Memref sig .tc .vmem S1x1x80x8192 .bf16) (harg5 : arg5.IsWhole) (arg6 : Memref sig .tc .smem S2 .f32) (harg6 : arg6.IsWhole) (arg7 : Memref sig .tc .vmem S1x4096x256 .bf16) (harg7 : arg7.IsWhole) (arg8 : Memref sig .tc .vmem S64x16384 .bf16) (harg8 : arg8.IsWhole) (arg9 : Memref sig .tc .vmem S1x16384 .f32) (harg9 : arg9.IsWhole) (arg10 : Memref sig .tc .vmem S80x16384 .f32) (harg10 : arg10.IsWhole) (arg11 : Memref sig .tc .vmem S512x512 .f32) (harg11 : arg11.IsWhole)
  (v27 : FVec Ideal S64x4096 .bf16) (X4 : BufTy.Contents (Elt Ideal) arg4.view.ty) (X5 : BufTy.Contents (Elt Ideal) arg5.view.ty)
  (X8 : BufTy.Contents (Elt Ideal) arg8.view.ty)
  (k : Fin k0_t2_loop.trips) (f9 : BufTy.Contents (Elt Ideal) arg9.view.ty) (f10 : BufTy.Contents (Elt Ideal) arg10.view.ty)
  (f11 : BufTy.Contents (Elt Ideal) arg11.view.ty)

/-- The trip's pieces, at any contents of the four buffers that it reads and writes. -/
abbrev tripB : List (View.Piece (Elt Ideal) S1x16384 .f32) × List (View.Piece (Elt Ideal) S80x16384 .f32) × List (View.Piece (Elt Ideal) S512x512 .f32) :=
  tripL_k0_t2 (F := Ideal) Variants.none c none i arg3 harg3 arg4 harg4 arg5 harg5 arg6 harg6 arg7 harg7 arg8 harg8 arg9 harg9 arg10 harg10 arg11 harg11 v27 X4 X5 X8 k f9 f10 f11

/-- Every piece that the trip stores is a block of `topped` (the maxima) or of `rescaled` (the sums). -/
theorem tripB_pieces
    (h11 : ∀ y : S512x512.Idx, arg11.view.read (Elt Ideal) f11 y = head (arg4.view.read (Elt Ideal) X4) (arg8.view.read (Elt Ideal) X8) k y) :
    View.PiecesOf (Val := Elt Ideal) (topped arg4.view X4 arg8.view X8 arg9.view f9 k) (tripB c i arg3 harg3 arg4 harg4 arg5 harg5 arg6 harg6 arg7 harg7 arg8 harg8 arg9 harg9 arg10 harg10 arg11 harg11 v27 X4 X5 X8 k f9 f10 f11).1
      ∧ View.PiecesOf (Val := Elt Ideal) (rescaled arg4.view X4 arg5.view X5 arg8.view X8 arg10.view f10 arg9.view f9 k)
        (tripB c i arg3 harg3 arg4 harg4 arg5 harg5 arg6 harg6 arg7 harg7 arg8 harg8 arg9 harg9 arg10 harg10 arg11 harg11 v27 X4 X5 X8 k f9 f10 f11).2.1 := by
  have hk : k.val < 16 := k.isLt
  have hS : ∀ (o : ℕ) (ho : o + 512 ≤ 16384) (i8 : ∀ a, (![0, o] : Fin 2 → ℕ) a + S64x512.size a ≤ S64x16384.size a) (j q : Fin 512), _ :=
    fun o ho i8 j q => scores_block arg4.view X4 arg8.view X8 (k0_off4 k) k o hk (off_keys' k) (k0_off4_inb k) i8 j q (by omega)
  have h0 : ∀ j q : Fin 512, View.readAt (Elt Ideal) arg11.view (Rect.unit (s := S512x512) ![0, 0] S512x512.size inb_S512x512_S512x512_0_0).toLoadRect f11 (ix2 j q)
      = score (arg4.view.read (Elt Ideal) X4) (arg8.view.read (Elt Ideal) X8) (key k j) ⟨0 + q, by omega⟩ := fun j q => by
    rw [View.readAt_eq_ld]
    refine Eq.trans (congrArg (arg11.view.read (Elt Ideal) f11) ?_) (h11 (ix2 j q))
    idx_ext
  unfold tripB
  unfold tripL_k0_t2
  unfold trip_k0_t2
  dsimp only
  sl_unfold_words
  constructor
  · iterate 31 refine ⟨fun x => max_block arg4.view X4 arg8.view X8 arg9.view f9 k _ (by omega) _ _ (hS _ (by omega) _) x, ?_⟩
    exact ⟨fun x => max_block arg4.view X4 arg8.view X8 arg9.view f9 k _ (by omega) _ _ h0 x, trivial⟩
  · iterate 31 refine ⟨fun x => rescale_block arg4.view X4 arg5.view X5 arg8.view X8 arg10.view f10 arg9.view f9 _ k _ hk (by omega) (off_values' k) _ _ _ _ (hS _ (by omega) _) x, ?_⟩
    exact ⟨fun x => rescale_block arg4.view X4 arg5.view X5 arg8.view X8 arg10.view f10 arg9.view f9 _ k _ hk (by omega) (off_values' k) _ _ _ _ h0 x, trivial⟩

/-- The maxima after the trip. -/
theorem tripB_maxima
    (h11 : ∀ y : S512x512.Idx, arg11.view.read (Elt Ideal) f11 y = head (arg4.view.read (Elt Ideal) X4) (arg8.view.read (Elt Ideal) X8) k y)
    (y : S1x16384.Idx) :
    arg9.view.read (Elt Ideal) (arg9.view.writes (Elt Ideal) f9 (tripB c i arg3 harg3 arg4 harg4 arg5 harg5 arg6 harg6 arg7 harg7 arg8 harg8 arg9 harg9 arg10 harg10 arg11 harg11 v27 X4 X5 X8 k f9 f10 f11).1) y
      = topped arg4.view X4 arg8.view X8 arg9.view f9 k y :=
  View.read_writes_apply_of_pieces _ _ _ _ (tripB_pieces c i arg3 harg3 arg4 harg4 arg5 harg5 arg6 harg6 arg7 harg7 arg8 harg8 arg9 harg9 arg10 harg10 arg11 harg11 v27 X4 X5 X8 k f9 f10 f11 h11).1.mem y
    (View.cover_of_tiledL _ ![1, 512] (by sl_kernel_rfl) y)

/-- The sums after the trip. -/
theorem tripB_sums
    (h11 : ∀ y : S512x512.Idx, arg11.view.read (Elt Ideal) f11 y = head (arg4.view.read (Elt Ideal) X4) (arg8.view.read (Elt Ideal) X8) k y)
    (y : S80x16384.Idx) :
    arg10.view.read (Elt Ideal) (arg10.view.writes (Elt Ideal) f10 (tripB c i arg3 harg3 arg4 harg4 arg5 harg5 arg6 harg6 arg7 harg7 arg8 harg8 arg9 harg9 arg10 harg10 arg11 harg11 v27 X4 X5 X8 k f9 f10 f11).2.1) y
      = rescaled arg4.view X4 arg5.view X5 arg8.view X8 arg10.view f10 arg9.view f9 k y :=
  View.read_writes_apply_of_pieces _ _ _ _ (tripB_pieces c i arg3 harg3 arg4 harg4 arg5 harg5 arg6 harg6 arg7 harg7 arg8 harg8 arg9 harg9 arg10 harg10 arg11 harg11 v27 X4 X5 X8 k f9 f10 f11 h11).2.mem y
    (View.cover_of_tiledL _ ![80, 512] (by sl_kernel_rfl) y)

/-- The stored scores after the trip: those of the next block of keys. -/
theorem tripB_head (y : S512x512.Idx) :
    arg11.view.read (Elt Ideal) (arg11.view.writes (Elt Ideal) f11 (tripB c i arg3 harg3 arg4 harg4 arg5 harg5 arg6 harg6 arg7 harg7 arg8 harg8 arg9 harg9 arg10 harg10 arg11 harg11 v27 X4 X5 X8 k f9 f10 f11).2.2) y
      = head (arg4.view.read (Elt Ideal) X4) (arg8.view.read (Elt Ideal) X8) (min (k.val + 1) 15) y := by
  refine View.read_writes_apply_of_pieces _ _ _ _ (View.PiecesOf.mem ?_) y (View.cover_of_tiledL _ ![512, 512] (by sl_kernel_rfl) y)
  unfold tripB
  unfold tripL_k0_t2
  unfold trip_k0_t2
  dsimp only
  sl_unfold_words
  exact ⟨fun x => head_block arg4.view X4 arg8.view X8 (k0_off6 k) _ (by omega) (off_next' k) (k0_off6_inb k) _ (by decide) _ x, trivial⟩

end Cert.KernelIdeal.Mixer

end
-- ==== Proof.Mixer.Loop.lean ====
/-
  The two loops over the blocks of keys, from the first to the last: what the sums are at the end.
-/
module

public import proofs.«01_k».proof.Proof.Mixer.TripA
public import proofs.«01_k».proof.Proof.Mixer.TripB

@[expose] public section

set_option maxRecDepth 16384

noncomputable section

namespace Cert.KernelIdeal.Mixer

open Cert.KernelIdeal Cert.KernelIdeal.Gen
open Idealize.ShloMosaic Idealize.ShloMosaic.TcCoe Idealize.ShloMosaic.Tactic
open scoped BigOperators

/-- A sum over the sixteen blocks of keys is a sum over the keys. -/
theorem sum_blocks (f : Fin 8192 → EReal) : ∑ b ∈ Finset.range 16, ∑ j : Fin 512, f (key b j) = ∑ t : Fin 8192, f t := by
  rw [Finset.sum_range, ← Fintype.sum_prod_type' (fun (b : Fin 16) (j : Fin 512) => f (key b j))]
  refine Fintype.sum_equiv (finProdFinEquiv (m := 16) (n := 512)) _ _ fun x => congrArg f (Fin.ext ?_)
  obtain ⟨b, j⟩ := x
  show (512 * b.val + j.val) % 8192 = j.val + 512 * b.val
  omega

/-- The scores of a query column, and the values of a row, block by block. -/
def scores (K : S1x1x8192x64.Idx → EReal) (Q : S64x16384.Idx → EReal) (q : Fin 16384) (b : ℕ) (j : Fin 512) : EReal := score K Q (key b j) q
def values (V : S1x1x80x8192.Idx → EReal) (r : Fin 80) (b : ℕ) (j : Fin 512) : EReal := V (ix4 0 0 r (key b j))

variable (c : Dev nD) (i : grid0.Coords) (arg3 : Memref sig .tc .vmem S1x4x64x4096 .bf16) (harg3 : arg3.IsWhole) (arg4 : Memref sig .tc .vmem S1x1x8192x64 .bf16) (harg4 : arg4.IsWhole) (arg5 : Memref sig .tc .vmem S1x1x80x8192 .bf16) (harg5 : arg5.IsWhole) (arg6 : Memref sig .tc .smem S2 .f32) (harg6 : arg6.IsWhole) (arg7 : Memref sig .tc .vmem S1x4096x256 .bf16) (harg7 : arg7.IsWhole) (arg8 : Memref sig .tc .vmem S64x16384 .bf16) (harg8 : arg8.IsWhole) (arg9 : Memref sig .tc .vmem S1x16384 .f32) (harg9 : arg9.IsWhole) (arg10 : Memref sig .tc .vmem S80x16384 .f32) (harg10 : arg10.IsWhole) (arg11 : Memref sig .tc .vmem S512x512 .f32) (harg11 : arg11.IsWhole)
  (v27 : FVec Ideal S64x4096 .bf16) (X4 : BufTy.Contents (Elt Ideal) arg4.view.ty) (X5 : BufTy.Contents (Elt Ideal) arg5.view.ty)
  (X6 : BufTy.Contents (Elt Ideal) arg6.view.ty) (X8 : BufTy.Contents (Elt Ideal) arg8.view.ty)
  (G9 : BufTy.Contents (Elt Ideal) arg9.view.ty) (G10 : BufTy.Contents (Elt Ideal) arg10.view.ty) (G11 : BufTy.Contents (Elt Ideal) arg11.view.ty)

/-- The pieces of the first `n` trips with the fixed shift. -/
abbrev piecesA (n : ℕ) : List (View.Piece (Elt Ideal) S80x16384 .f32) × List (View.Piece (Elt Ideal) S512x512 .f32) :=
  pb_k0_t1 (F := Ideal) Variants.none c none i arg3 harg3 arg4 harg4 arg5 harg5 arg6 harg6 arg7 harg7 arg8 harg8 arg9 harg9 arg10 harg10 arg11 harg11 v27 X4 X5 X6 X8 G10 G11 n

/-- The pieces of the first `n` trips with the running maximum. -/
abbrev piecesB (n : ℕ) : List (View.Piece (Elt Ideal) S1x16384 .f32) × List (View.Piece (Elt Ideal) S80x16384 .f32) × List (View.Piece (Elt Ideal) S512x512 .f32) :=
  pb_k0_t2 (F := Ideal) Variants.none c none i arg3 harg3 arg4 harg4 arg5 harg5 arg6 harg6 arg7 harg7 arg8 harg8 arg9 harg9 arg10 harg10 arg11 harg11 v27 X4 X5 X8 G9 G10 G11 n

/-- After `n` trips with the fixed shift. -/
theorem loopA (h10 : ∀ y, arg10.view.read (Elt Ideal) G10 y = (0 : EReal))
    (h11 : ∀ y, arg11.view.read (Elt Ideal) G11 y = head (arg4.view.read (Elt Ideal) X4) (arg8.view.read (Elt Ideal) X8) 0 y) :
    ∀ n : ℕ, n ≤ 16 →
      (∀ y : S80x16384.Idx, arg10.view.read (Elt Ideal) (arg10.view.writes (Elt Ideal) G10 (piecesA c i arg3 harg3 arg4 harg4 arg5 harg5 arg6 harg6 arg7 harg7 arg8 harg8 arg9 harg9 arg10 harg10 arg11 harg11 v27 X4 X5 X6 X8 G10 G11 n).1) y
        = Softmax.weighed (scores (arg4.view.read (Elt Ideal) X4) (arg8.view.read (Elt Ideal) X8) (y 1)) (values (arg5.view.read (Elt Ideal) X5) (y 0)) (fixed arg6 X6) n)
      ∧ ∀ y : S512x512.Idx, arg11.view.read (Elt Ideal) (arg11.view.writes (Elt Ideal) G11 (piecesA c i arg3 harg3 arg4 harg4 arg5 harg5 arg6 harg6 arg7 harg7 arg8 harg8 arg9 harg9 arg10 harg10 arg11 harg11 v27 X4 X5 X6 X8 G10 G11 n).2) y
        = head (arg4.view.read (Elt Ideal) X4) (arg8.view.read (Elt Ideal) X8) (min n 15) y
  | 0, _ => ⟨fun y => (h10 y).trans (by simp [Softmax.weighed]), h11⟩
  | n + 1, hn => by
    obtain ⟨ha, hb⟩ := loopA h10 h11 n (by omega)
    have e := pb_k0_t1_succ (F := Ideal) Variants.none c none i arg3 harg3 arg4 harg4 arg5 harg5 arg6 harg6 arg7 harg7 arg8 harg8 arg9 harg9 arg10 harg10 arg11 harg11 v27 X4 X5 X6 X8 G10 G11 ⟨n, (by omega : n < 16)⟩
    unfold piecesA at ha hb ⊢
    rw [e]
    dsimp only
    rw [View.writes_append, View.writes_append]
    refine ⟨fun y => ?_, fun y => ?_⟩
    · rw [tripA_sums _ _ _ _ _ _ _ _ _ _ _ _ _ _ _ _ _ _ _ _ _ _ _ _ _ _ _ _ (fun y => by rw [hb y, show min n 15 = n by omega]), stepped, ha y]
      rw [Softmax.weighed, Softmax.weighed, Finset.sum_range_succ]
      rfl
    · exact tripA_head _ _ _ _ _ _ _ _ _ _ _ _ _ _ _ _ _ _ _ _ _ _ _ _ _ _ _ _ y

/-- The three invariants of the loop with the running maximum: the maxima, the sums and the scores for the next trip. -/
def Running (n : ℕ) (f9 : BufTy.Contents (Elt Ideal) arg9.view.ty) (f10 : BufTy.Contents (Elt Ideal) arg10.view.ty) (f11 : BufTy.Contents (Elt Ideal) arg11.view.ty) : Prop :=
  (∀ y : S1x16384.Idx, arg9.view.read (Elt Ideal) f9 y = Softmax.top (scores (arg4.view.read (Elt Ideal) X4) (arg8.view.read (Elt Ideal) X8) (y 1)) n)
  ∧ (∀ y : S80x16384.Idx, arg10.view.read (Elt Ideal) f10 y
        = Softmax.weighed (scores (arg4.view.read (Elt Ideal) X4) (arg8.view.read (Elt Ideal) X8) (y 1)) (values (arg5.view.read (Elt Ideal) X5) (y 0))
            (Softmax.top (scores (arg4.view.read (Elt Ideal) X4) (arg8.view.read (Elt Ideal) X8) (y 1)) n) n)
  ∧ ∀ y : S512x512.Idx, arg11.view.read (Elt Ideal) f11 y = head (arg4.view.read (Elt Ideal) X4) (arg8.view.read (Elt Ideal) X8) (min n 15) y

/-- One trip keeps them, where the scores are real. -/
theorem running_step (x : Fin 8192 → Fin 16384 → ℝ) (hx : ∀ t q, score (arg4.view.read (Elt Ideal) X4) (arg8.view.read (Elt Ideal) X8) t q = (x t q : EReal))
    (k : Fin k0_t2_loop.trips) (f9 : BufTy.Contents (Elt Ideal) arg9.view.ty) (f10 : BufTy.Contents (Elt Ideal) arg10.view.ty) (f11 : BufTy.Contents (Elt Ideal) arg11.view.ty)
    (h : Running arg4 arg5 arg8 arg9 arg10 arg11 X4 X5 X8 k.val f9 f10 f11) :
    Running arg4 arg5 arg8 arg9 arg10 arg11 X4 X5 X8 (k.val + 1) (arg9.view.writes (Elt Ideal) f9 (tripB c i arg3 harg3 arg4 harg4 arg5 harg5 arg6 harg6 arg7 harg7 arg8 harg8 arg9 harg9 arg10 harg10 arg11 harg11 v27 X4 X5 X8 k f9 f10 f11).1)
      (arg10.view.writes (Elt Ideal) f10 (tripB c i arg3 harg3 arg4 harg4 arg5 harg5 arg6 harg6 arg7 harg7 arg8 harg8 arg9 harg9 arg10 harg10 arg11 harg11 v27 X4 X5 X8 k f9 f10 f11).2.1)
      (arg11.view.writes (Elt Ideal) f11 (tripB c i arg3 harg3 arg4 harg4 arg5 harg5 arg6 harg6 arg7 harg7 arg8 harg8 arg9 harg9 arg10 harg10 arg11 harg11 v27 X4 X5 X8 k f9 f10 f11).2.2) := by
  obtain ⟨hm, ha, hb⟩ := h
  have hk : k.val < 16 := k.isLt
  have hh : ∀ y : S512x512.Idx, arg11.view.read (Elt Ideal) f11 y = head (arg4.view.read (Elt Ideal) X4) (arg8.view.read (Elt Ideal) X8) k.val y :=
    fun y => by rw [hb y, show min k.val 15 = k.val by omega]
  have ht : ∀ y : S1x16384.Idx, topped arg4.view X4 arg8.view X8 arg9.view f9 k.val y
      = Softmax.top (scores (arg4.view.read (Elt Ideal) X4) (arg8.view.read (Elt Ideal) X8) (y 1)) (k.val + 1) := fun y => by
    rw [topped, hm y]
    exact (Softmax.top_succ _ k.val).symm
  refine ⟨fun y => ?_, fun y => ?_, fun y => ?_⟩
  · rw [tripB_maxima c i arg3 harg3 arg4 harg4 arg5 harg5 arg6 harg6 arg7 harg7 arg8 harg8 arg9 harg9 arg10 harg10 arg11 harg11 v27 X4 X5 X8 k f9 f10 f11 hh y]
    exact ht y
  · rw [tripB_sums c i arg3 harg3 arg4 harg4 arg5 harg5 arg6 harg6 arg7 harg7 arg8 harg8 arg9 harg9 arg10 harg10 arg11 harg11 v27 X4 X5 X8 k f9 f10 f11 hh y]
    have hw := Softmax.weighed_succ (fun b j => x (key b j) (y 1)) (values (arg5.view.read (Elt Ideal) X5) (y 0)) k.val
    have hs : scores (arg4.view.read (Elt Ideal) X4) (arg8.view.read (Elt Ideal) X8) (y 1) = fun b j => (x (key b j) (y 1) : EReal) := by
      funext b j; exact hx _ _
    have ht1 := ht (ix2 0 (y 1))
    have hm1 := hm (ix2 0 (y 1))
    have ha1 := ha y
    rw [show (ix2 0 (y 1) : S1x16384.Idx) 1 = y 1 from rfl, hs] at ht1 hm1
    rw [hs] at ha1 ⊢
    rw [rescaled, ht1, hm1, ha1]
    refine Eq.trans ?_ hw
    refine congrArg₂ (· + ·) rfl (Finset.sum_congr rfl fun j _ => ?_)
    exact congrArg (fun z => values (arg5.view.read (Elt Ideal) X5) (y 0) k.val j
      * Ideal.exp2 (z - Softmax.top (fun b j => (x (key b j) (y 1) : EReal)) (k.val + 1))) (hx (key k.val j) (y 1))
  · exact tripB_head c i arg3 harg3 arg4 harg4 arg5 harg5 arg6 harg6 arg7 harg7 arg8 harg8 arg9 harg9 arg10 harg10 arg11 harg11 v27 X4 X5 X8 k f9 f10 f11 y

/-- After `n` trips with the running maximum, of scores that are real. -/
theorem loopB (h : Running arg4 arg5 arg8 arg9 arg10 arg11 X4 X5 X8 0 G9 G10 G11)
    (x : Fin 8192 → Fin 16384 → ℝ) (hx : ∀ t q, score (arg4.view.read (Elt Ideal) X4) (arg8.view.read (Elt Ideal) X8) t q = (x t q : EReal)) :
    ∀ n : ℕ, n ≤ 16 → Running arg4 arg5 arg8 arg9 arg10 arg11 X4 X5 X8 n
      (arg9.view.writes (Elt Ideal) G9 (piecesB c i arg3 harg3 arg4 harg4 arg5 harg5 arg6 harg6 arg7 harg7 arg8 harg8 arg9 harg9 arg10 harg10 arg11 harg11 v27 X4 X5 X8 G9 G10 G11 n).1)
      (arg10.view.writes (Elt Ideal) G10 (piecesB c i arg3 harg3 arg4 harg4 arg5 harg5 arg6 harg6 arg7 harg7 arg8 harg8 arg9 harg9 arg10 harg10 arg11 harg11 v27 X4 X5 X8 G9 G10 G11 n).2.1)
      (arg11.view.writes (Elt Ideal) G11 (piecesB c i arg3 harg3 arg4 harg4 arg5 harg5 arg6 harg6 arg7 harg7 arg8 harg8 arg9 harg9 arg10 harg10 arg11 harg11 v27 X4 X5 X8 G9 G10 G11 n).2.2)
  | 0, _ => h
  | n + 1, hn => by
    have ih := loopB h x hx n (by omega)
    have e := pb_k0_t2_succ (F := Ideal) Variants.none c none i arg3 harg3 arg4 harg4 arg5 harg5 arg6 harg6 arg7 harg7 arg8 harg8 arg9 harg9 arg10 harg10 arg11 harg11 v27 X4 X5 X8 G9 G10 G11 ⟨n, (by omega : n < 16)⟩
    have st := running_step c i arg3 harg3 arg4 harg4 arg5 harg5 arg6 harg6 arg7 harg7 arg8 harg8 arg9 harg9 arg10 harg10 arg11 harg11 v27 X4 X5 X8 x hx ⟨n, (by omega : n < 16)⟩ _ _ _ ih
    unfold piecesB at st ⊢
    rw [e]
    dsimp only
    rw [View.writes_append, View.writes_append, View.writes_append]
    exact st

end Cert.KernelIdeal.Mixer

end
-- ==== Proof.Mixer.Block.lean ====
/-
  What the body leaves in its block of the result: for every query a quotient of two sums over all the keys.
-/
module

public import proofs.«01_k».proof.Proof.Mixer.Loop

@[expose] public section

set_option maxRecDepth 16384

noncomputable section

namespace Cert.KernelIdeal.Mixer

open Cert.KernelIdeal Cert.KernelIdeal.Gen
open Idealize.ShloMosaic Idealize.ShloMosaic.TcCoe Idealize.ShloMosaic.Tactic
open scoped BigOperators

/-! ### The buffers before the loop -/

theorem queries_apply (a : Vec Ideal S1x1x64x4096 .bf16) (d : Fin 64) (i : Fin 4096) :
    k0_pay206 (F := Ideal) a (ix2 d i) = a (ix4 0 0 d i) * (((8 * Real.log 2)⁻¹ : ℝ) : EReal) := by
  pointwise [k0_pay206]
  rfl

theorem zero_apply (y : S80x16384.Idx) : k0_pay205 (F := Ideal) y = (0 : EReal) := by
  idx_vars y
  pointwise [k0_pay205]

theorem bot_apply (y : S1x16384.Idx) : k0_pay213 (F := Ideal) y = (⊥ : EReal) := by
  rw [← Softmax.neg_inf]
  idx_vars y
  pointwise [k0_pay213]

/-- The queries of the four heads side by side, scaled. -/
def scaled (x0 : S1x4x64x4096.Idx → EReal) (y : S64x16384.Idx) : EReal :=
  x0 (ix4 0 ⟨(y 1).val / 4096, by have : (y 1).val < 16384 := (y 1).isLt; omega⟩ (y 0) ⟨(y 1).val % 4096, Nat.mod_lt _ (by norm_num)⟩)
    * (((8 * Real.log 2)⁻¹ : ℝ) : EReal)

/-- The piece of one head. -/
theorem queries_block {sig' : RefSig} (v3 : View sig' .tc .vmem S1x4x64x4096 .bf16) (X3 : v3.ty.Contents (Elt Ideal))
    (g o : ℕ) (hg : g < 4) (ho : o = 4096 * g) (i3 : ∀ a, (![0, g, 0, 0] : Fin 4 → ℕ) a + S1x1x64x4096.size a ≤ S1x4x64x4096.size a)
    (i8 : ∀ a, (![0, o] : Fin 2 → ℕ) a + S64x4096.size a ≤ S64x16384.size a) (y : S64x4096.Idx) :
    k0_pay206 (F := Ideal) (View.readAt (Elt Ideal) v3 (Rect.unit (s := S1x4x64x4096) ![0, g, 0, 0] S1x1x64x4096.size i3).toLoadRect X3) y
      = scaled (v3.read (Elt Ideal) X3) ((Rect.unit (s := S64x16384) ![0, o] S64x4096.size i8).emb y) := by
  subst ho
  idx_vars y
  have he : (Rect.unit (s := S64x16384) ![0, 4096 * g] S64x4096.size i8).emb (ix2 y0 y1) = ix2 y0 ⟨4096 * g + y1, by omega⟩ := by idx_ext
  rw [he, queries_apply, scaled, View.readAt_eq_ld]
  congr 1
  refine congrArg (v3.read (Elt Ideal) X3) ?_
  have e1 : (4096 * g + y1.val) / 4096 = g := by omega
  have e2 : (4096 * g + y1.val) % 4096 = y1.val := by omega
  funext a
  fin_cases a
  · rfl
  · exact Fin.ext (by show g + 1 * 0 = (4096 * g + y1.val) / 4096; omega)
  · exact Fin.ext (by show 0 + 1 * y0.val = y0.val; omega)
  · exact Fin.ext (by show 0 + 1 * y1.val = (4096 * g + y1.val) % 4096; omega)

/-- The quotient that the body forms of the sums `f10`: for row `i` and feature `e` of the result's block. -/
def quotient {sig' : RefSig} (v10 : View sig' .tc .vmem S80x16384 .f32) (f10 : v10.ty.Contents (Elt Ideal)) (y : S1x4096x256.Idx) : EReal :=
  Ideal.div (v10.read (Elt Ideal) f10 (ix2 ⟨(y 2).val % 64, by omega⟩ ⟨4096 * ((y 2).val / 64) + (y 1).val, by have : (y 2).val < 256 := (y 2).isLt; have : (y 1).val < 4096 := (y 1).isLt; omega⟩))
    (v10.read (Elt Ideal) f10 (ix2 64 ⟨4096 * ((y 2).val / 64) + (y 1).val, by have : (y 2).val < 256 := (y 2).isLt; have : (y 1).val < 4096 := (y 1).isLt; omega⟩))

/-- The piece that the body stores into the result's block. -/
theorem quotient_block {sig' : RefSig} (v10 : View sig' .tc .vmem S80x16384 .f32) (f10 : v10.ty.Contents (Elt Ideal))
    (i0 : ∀ a, (![0, 0] : Fin 2 → ℕ) a + S64x4096.size a ≤ S80x16384.size a) (j0 : ∀ a, (![64, 0] : Fin 2 → ℕ) a + S1x4096.size a ≤ S80x16384.size a)
    (i1 : ∀ a, (![0, 4096] : Fin 2 → ℕ) a + S64x4096.size a ≤ S80x16384.size a) (j1 : ∀ a, (![64, 4096] : Fin 2 → ℕ) a + S1x4096.size a ≤ S80x16384.size a)
    (i2 : ∀ a, (![0, 8192] : Fin 2 → ℕ) a + S64x4096.size a ≤ S80x16384.size a) (j2 : ∀ a, (![64, 8192] : Fin 2 → ℕ) a + S1x4096.size a ≤ S80x16384.size a)
    (i3 : ∀ a, (![0, 12288] : Fin 2 → ℕ) a + S64x4096.size a ≤ S80x16384.size a) (j3 : ∀ a, (![64, 12288] : Fin 2 → ℕ) a + S1x4096.size a ≤ S80x16384.size a)
    (ir : ∀ a, (![0, 0, 0] : Fin 3 → ℕ) a + S1x4096x256.size a ≤ S1x4096x256.size a) (y : S1x4096x256.Idx) :
    k0_pay1 (F := Ideal)
      (k0_pay217 (View.readAt (Elt Ideal) v10 (Rect.unit (s := S80x16384) ![0, 0] S64x4096.size i0).toLoadRect f10) (View.readAt (Elt Ideal) v10 (Rect.unit (s := S80x16384) ![64, 0] S1x4096.size j0).toLoadRect f10))
      (k0_pay218 (View.readAt (Elt Ideal) v10 (Rect.unit (s := S80x16384) ![0, 4096] S64x4096.size i1).toLoadRect f10) (View.readAt (Elt Ideal) v10 (Rect.unit (s := S80x16384) ![64, 4096] S1x4096.size j1).toLoadRect f10))
      (k0_pay219 (View.readAt (Elt Ideal) v10 (Rect.unit (s := S80x16384) ![0, 8192] S64x4096.size i2).toLoadRect f10) (View.readAt (Elt Ideal) v10 (Rect.unit (s := S80x16384) ![64, 8192] S1x4096.size j2).toLoadRect f10))
      (View.readAt (Elt Ideal) v10 (Rect.unit (s := S80x16384) ![0, 12288] S64x4096.size i3).toLoadRect f10) (View.readAt (Elt Ideal) v10 (Rect.unit (s := S80x16384) ![64, 12288] S1x4096.size j3).toLoadRect f10) y
      = quotient v10 f10 ((Rect.unit (s := S1x4096x256) ![0, 0, 0] S1x4096x256.size ir).emb y) := by
  idx_vars y
  obtain rfl : y0 = 0 := Subsingleton.elim _ _
  have he : (Rect.unit (s := S1x4096x256) ![0, 0, 0] S1x4096x256.size ir).emb (ix3 0 y1 y2) = ix3 0 y1 y2 := by idx_ext
  rw [he]
  simp only [View.readAt_eq_ld]
  rw [quotient]
  generalize v10.read (Elt Ideal) f10 = A
  pointwise [k0_pay1, k0_pay217, k0_pay218, k0_pay219]
  have h2 : y2.val < 256 := y2.isLt
  show _ = Ideal.div (A (ix2 ⟨y2.val % 64, _⟩ ⟨4096 * (y2.val / 64) + y1.val, _⟩)) (A (ix2 64 ⟨4096 * (y2.val / 64) + y1.val, _⟩))
  by_cases h : y2.val < 64
  · rw [dif_pos h]
    congr 2 <;> idx_ext <;> omega
  rw [dif_neg h]
  by_cases h' : y2.val - 64 < 64
  · rw [dif_pos h']
    congr 2 <;> idx_ext <;> omega
  rw [dif_neg h']
  by_cases h'' : y2.val - 64 - 64 < 64
  · rw [dif_pos h'']
    congr 2 <;> idx_ext <;> omega
  rw [dif_neg h'']
  congr 2 <;> idx_ext <;> omega

/-! ### The body, in its two cases -/

variable (c : Dev nD) (i : grid0.Coords) (arg3 : Memref sig .tc .vmem S1x4x64x4096 .bf16) (harg3 : arg3.IsWhole) (arg4 : Memref sig .tc .vmem S1x1x8192x64 .bf16) (harg4 : arg4.IsWhole) (arg5 : Memref sig .tc .vmem S1x1x80x8192 .bf16) (harg5 : arg5.IsWhole) (arg6 : Memref sig .tc .smem S2 .f32) (harg6 : arg6.IsWhole) (arg7 : Memref sig .tc .vmem S1x4096x256 .bf16) (harg7 : arg7.IsWhole) (arg8 : Memref sig .tc .vmem S64x16384 .bf16) (harg8 : arg8.IsWhole) (arg9 : Memref sig .tc .vmem S1x16384 .f32) (harg9 : arg9.IsWhole) (arg10 : Memref sig .tc .vmem S80x16384 .f32) (harg10 : arg10.IsWhole) (arg11 : Memref sig .tc .vmem S512x512 .f32) (harg11 : arg11.IsWhole)
  (x0 : Vec Ideal S1x4x64x4096 .bf16) (x1 : Vec Ideal S1x1x8192x64 .bf16) (x2 : Vec Ideal S1x1x80x8192 .bf16) (x3 : Vec Ideal S2 .f32)

/-- Head 2's queries, scaled, as the body holds them. -/
abbrev third : FVec Ideal S64x4096 .bf16 :=
  k0_pay208 (View.readAt (Elt Ideal) arg3.view (Rect.unit (s := S1x4x64x4096) ![0, 2, 0, 0] S1x1x64x4096.size inb_S1x4x64x4096_S1x1x64x4096_0_2_0_0).toLoadRect (harg3.unread x0))

/-- The buffer of queries before the loop. -/
abbrev queries : BufTy.Contents (Elt Ideal) arg8.view.ty :=
  arg8.view.writes (Elt Ideal) arg8.view.junk
    [⟨Rect.unit (s := S64x16384) ![0, 12288] S64x4096.size inb_S64x16384_S64x4096_0_12288,
        k0_pay210 (View.readAt (Elt Ideal) arg3.view (Rect.unit (s := S1x4x64x4096) ![0, 3, 0, 0] S1x1x64x4096.size inb_S1x4x64x4096_S1x1x64x4096_0_3_0_0).toLoadRect (harg3.unread x0))⟩,
     ⟨Rect.unit (s := S64x16384) ![0, 8192] S64x4096.size inb_S64x16384_S64x4096_0_8192, k0_pay209 (third arg3 harg3 x0)⟩,
     ⟨Rect.unit (s := S64x16384) ![0, 4096] S64x4096.size inb_S64x16384_S64x4096_0_4096,
        k0_pay207 (View.readAt (Elt Ideal) arg3.view (Rect.unit (s := S1x4x64x4096) ![0, 1, 0, 0] S1x1x64x4096.size inb_S1x4x64x4096_S1x1x64x4096_0_1_0_0).toLoadRect (harg3.unread x0))⟩,
     ⟨Rect.unit (s := S64x16384) ![0, 0] S64x4096.size inb_S64x16384_S64x4096_0_0,
        k0_pay206 (View.readAt (Elt Ideal) arg3.view (Rect.unit (s := S1x4x64x4096) ![0, 0, 0, 0] S1x1x64x4096.size inb_S1x4x64x4096_S1x1x64x4096_0_0_0_0).toLoadRect (harg3.unread x0))⟩]

/-- The sums, the maxima and the stored scores before the loop. -/
abbrev sums0 : BufTy.Contents (Elt Ideal) arg10.view.ty :=
  arg10.view.writes (Elt Ideal) arg10.view.junk [⟨Rect.unit (s := S80x16384) ![0, 0] S80x16384.size inb_S80x16384_S80x16384_0_0, k0_pay205 (F := Ideal)⟩]

abbrev maxima0 : BufTy.Contents (Elt Ideal) arg9.view.ty :=
  arg9.view.writes (Elt Ideal) arg9.view.junk [⟨Rect.unit (s := S1x16384) ![0, 0] S1x16384.size inb_S1x16384_S1x16384_0_0, k0_pay213 (F := Ideal)⟩]

abbrev scores0 : BufTy.Contents (Elt Ideal) arg11.view.ty :=
  arg11.view.writes (Elt Ideal) arg11.view.junk [⟨Rect.unit (s := S512x512) ![0, 0] S512x512.size inb_S512x512_S512x512_0_0,
    k0_pay211 (View.readAt (Elt Ideal) arg4.view (Rect.unit (s := S1x1x8192x64) ![0, 0, 0, 0] S1x1x512x64.size inb_S1x1x8192x64_S1x1x512x64_0_0_0_0).toLoadRect (harg4.unread x1))
      (View.readAt (Elt Ideal) arg8.view (Rect.unit (s := S64x16384) ![0, 0] S64x512.size inb_S64x16384_S64x512_0_0).toLoadRect (queries arg3 harg3 arg8 x0))⟩]

theorem read_queries (y : S64x16384.Idx) : arg8.view.read (Elt Ideal) (queries arg3 harg3 arg8 x0) y = scaled x0 y := by
  refine View.read_writes_apply_of_pieces _ _ _ _ (View.PiecesOf.mem ?_) y (View.cover_of_tiledL _ ![64, 4096] (by sl_kernel_rfl) y)
  have e : scaled x0 = scaled (arg3.view.read (Elt Ideal) (harg3.unread x0)) := by rw [harg3.read_unread]
  rw [e]
  exact ⟨fun x => queries_block arg3.view _ 3 _ (by omega) (by omega) _ (by decide) x, fun x => queries_block arg3.view _ 2 _ (by omega) (by omega) _ (by decide) x,
    fun x => queries_block arg3.view _ 1 _ (by omega) (by omega) _ (by decide) x, fun x => queries_block arg3.view _ 0 _ (by omega) (by omega) _ (by decide) x, trivial⟩

theorem read_sums0 (y : S80x16384.Idx) : arg10.view.read (Elt Ideal) (sums0 arg10) y = (0 : EReal) := by
  refine View.read_writes_apply_of_pieces (Val := Elt Ideal) (e := .f32) arg10.view _ (fun _ => (0 : EReal)) _ ?_ y (View.cover_of_tiledL _ ![80, 16384] (by sl_kernel_rfl) y)
  intro p hp x
  obtain rfl := List.mem_singleton.1 hp
  exact zero_apply x

theorem read_maxima0 (y : S1x16384.Idx) : arg9.view.read (Elt Ideal) (maxima0 arg9) y = (⊥ : EReal) := by
  refine View.read_writes_apply_of_pieces (Val := Elt Ideal) (e := .f32) arg9.view _ (fun _ => (⊥ : EReal)) _ ?_ y (View.cover_of_tiledL _ ![1, 16384] (by sl_kernel_rfl) y)
  intro p hp x
  obtain rfl := List.mem_singleton.1 hp
  exact bot_apply x

theorem read_scores0 (y : S512x512.Idx) :
    arg11.view.read (Elt Ideal) (scores0 arg3 harg3 arg4 harg4 arg8 arg11 x0 x1) y
      = head (arg4.view.read (Elt Ideal) (harg4.unread x1)) (arg8.view.read (Elt Ideal) (queries arg3 harg3 arg8 x0)) 0 y := by
  refine View.read_writes_apply_of_pieces _ _ _ _ (View.PiecesOf.mem ?_) y (View.cover_of_tiledL _ ![512, 512] (by sl_kernel_rfl) y)
  exact ⟨fun x => head_block arg4.view _ arg8.view _ ![0, 0, 0, 0] 0 (by omega) rfl _ _ (by decide) _ x, trivial⟩

/-- The sums after the last trip, in the case of the fixed shift and in that of the running maximum. -/
abbrev sumsA : BufTy.Contents (Elt Ideal) arg10.view.ty :=
  arg10.view.writes (Elt Ideal) (sums0 arg10) (piecesA c i arg3 harg3 arg4 harg4 arg5 harg5 arg6 harg6 arg7 harg7 arg8 harg8 arg9 harg9 arg10 harg10 arg11 harg11 (third arg3 harg3 x0) (harg4.unread x1) (harg5.unread x2) (harg6.unread x3)
    (queries arg3 harg3 arg8 x0) (sums0 arg10) (scores0 arg3 harg3 arg4 harg4 arg8 arg11 x0 x1) 16).1

abbrev sumsB : BufTy.Contents (Elt Ideal) arg10.view.ty :=
  arg10.view.writes (Elt Ideal) (sums0 arg10) (piecesB c i arg3 harg3 arg4 harg4 arg5 harg5 arg6 harg6 arg7 harg7 arg8 harg8 arg9 harg9 arg10 harg10 arg11 harg11 (third arg3 harg3 x0) (harg4.unread x1) (harg5.unread x2)
    (queries arg3 harg3 arg8 x0) (maxima0 arg9) (sums0 arg10) (scores0 arg3 harg3 arg4 harg4 arg8 arg11 x0 x1) 16).2.1

/-- The result's block is the quotient of the sums, in either case. -/
theorem runA_quotient (hc : small (flag arg6 (harg6.unread x3)) = 1#1) (y : S1x4096x256.Idx) :
    VO.read (Elt Ideal) (VO.writes (Elt Ideal) VO.junk (kernelRunA c i arg3 harg3 arg4 harg4 arg5 harg5 arg6 harg6 arg7 harg7 arg8 harg8 arg9 harg9 arg10 harg10 arg11 harg11 x0 x1 x2 x3 hc).1) y
      = quotient arg10.view (sumsA c i arg3 harg3 arg4 harg4 arg5 harg5 arg6 harg6 arg7 harg7 arg8 harg8 arg9 harg9 arg10 harg10 arg11 harg11 x0 x1 x2 x3) y := by
  refine View.read_writes_apply_of_pieces _ _ _ _ (View.PiecesOf.mem ?_) y (coverA c i arg3 harg3 arg4 harg4 arg5 harg5 arg6 harg6 arg7 harg7 arg8 harg8 arg9 harg9 arg10 harg10 arg11 harg11 x0 x1 x2 x3 hc y)
  unfold sumsA sums0
  rw [← View.writes_append]
  unfold kernelRunA
  dsimp only
  sl_unfold_words
  exact ⟨fun x => quotient_block arg10.view _ _ _ _ _ _ _ _ _ (by decide) x, trivial⟩

theorem runB_quotient (hc : ¬ small (flag arg6 (harg6.unread x3)) = 1#1) (y : S1x4096x256.Idx) :
    VO.read (Elt Ideal) (VO.writes (Elt Ideal) VO.junk (kernelRunB c i arg3 harg3 arg4 harg4 arg5 harg5 arg6 harg6 arg7 harg7 arg8 harg8 arg9 harg9 arg10 harg10 arg11 harg11 x0 x1 x2 x3 hc).1) y
      = quotient arg10.view (sumsB c i arg3 harg3 arg4 harg4 arg5 harg5 arg6 harg6 arg7 harg7 arg8 harg8 arg9 harg9 arg10 harg10 arg11 harg11 x0 x1 x2) y := by
  refine View.read_writes_apply_of_pieces _ _ _ _ (View.PiecesOf.mem ?_) y (coverB c i arg3 harg3 arg4 harg4 arg5 harg5 arg6 harg6 arg7 harg7 arg8 harg8 arg9 harg9 arg10 harg10 arg11 harg11 x0 x1 x2 x3 hc y)
  unfold sumsB sums0
  rw [← View.writes_append]
  unfold kernelRunB
  dsimp only
  sl_unfold_words
  exact ⟨fun x => quotient_block arg10.view _ _ _ _ _ _ _ _ _ (by decide) x, trivial⟩

/-- The sums after the last trip with the fixed shift: over all the keys. -/
theorem sumsA_apply (y : S80x16384.Idx) :
    arg10.view.read (Elt Ideal) (sumsA c i arg3 harg3 arg4 harg4 arg5 harg5 arg6 harg6 arg7 harg7 arg8 harg8 arg9 harg9 arg10 harg10 arg11 harg11 x0 x1 x2 x3) y
      = ∑ t : Fin 8192, x2 (ix4 0 0 (y 0) t) * Ideal.exp2 (score x1 (scaled x0) t (y 1) - fixed arg6 (harg6.unread x3)) := by
  have hq : arg8.view.read (Elt Ideal) (queries arg3 harg3 arg8 x0) = scaled x0 := funext (read_queries arg3 harg3 arg8 x0)
  have h := (loopA c i arg3 harg3 arg4 harg4 arg5 harg5 arg6 harg6 arg7 harg7 arg8 harg8 arg9 harg9 arg10 harg10 arg11 harg11 (third arg3 harg3 x0) (harg4.unread x1) (harg5.unread x2) (harg6.unread x3) (queries arg3 harg3 arg8 x0)
    (sums0 arg10) (scores0 arg3 harg3 arg4 harg4 arg8 arg11 x0 x1) (read_sums0 arg10) (read_scores0 arg3 harg3 arg4 harg4 arg8 arg11 x0 x1) 16 le_rfl).1 y
  rw [hq, harg4.read_unread, harg5.read_unread] at h
  exact h.trans (sum_blocks fun t => x2 (ix4 0 0 (y 0) t) * Ideal.exp2 (score x1 (scaled x0) t (y 1) - fixed arg6 (harg6.unread x3)))

/-- The sums after the last trip with the running maximum, of real scores: over all the keys, less the greatest score. -/
theorem sumsB_apply (x : Fin 8192 → Fin 16384 → ℝ) (hx : ∀ t q, score x1 (scaled x0) t q = (x t q : EReal)) (q : Fin 16384) :
    ∃ μ : ℝ, ∀ r : Fin 80, arg10.view.read (Elt Ideal) (sumsB c i arg3 harg3 arg4 harg4 arg5 harg5 arg6 harg6 arg7 harg7 arg8 harg8 arg9 harg9 arg10 harg10 arg11 harg11 x0 x1 x2) (ix2 r q)
      = ∑ t : Fin 8192, x2 (ix4 0 0 r t) * Ideal.exp2 (score x1 (scaled x0) t q - (μ : EReal)) := by
  have hq : arg8.view.read (Elt Ideal) (queries arg3 harg3 arg8 x0) = scaled x0 := funext (read_queries arg3 harg3 arg8 x0)
  have h0 : Running arg4 arg5 arg8 arg9 arg10 arg11 (harg4.unread x1) (harg5.unread x2) (queries arg3 harg3 arg8 x0) 0
      (maxima0 arg9) (sums0 arg10) (scores0 arg3 harg3 arg4 harg4 arg8 arg11 x0 x1) :=
    ⟨read_maxima0 arg9, fun y => (read_sums0 arg10 y).trans (by simp [Softmax.weighed]), read_scores0 arg3 harg3 arg4 harg4 arg8 arg11 x0 x1⟩
  have h := (loopB c i arg3 harg3 arg4 harg4 arg5 harg5 arg6 harg6 arg7 harg7 arg8 harg8 arg9 harg9 arg10 harg10 arg11 harg11 (third arg3 harg3 x0) (harg4.unread x1) (harg5.unread x2) (queries arg3 harg3 arg8 x0)
    (maxima0 arg9) (sums0 arg10) (scores0 arg3 harg3 arg4 harg4 arg8 arg11 x0 x1) h0 x (by rw [hq, harg4.read_unread]; exact hx) 16 le_rfl).2.1
  rw [hq, harg4.read_unread, harg5.read_unread] at h
  obtain ⟨μ, hμ⟩ := Softmax.top_real (fun b j => x (key b j) q) 15
  have hs : scores x1 (scaled x0) q = fun b j => (x (key b j) q : EReal) := by
    funext b j; exact hx _ _
  rw [← hs] at hμ
  refine ⟨μ, fun r => (h (ix2 r q)).trans ?_⟩
  show Softmax.weighed (scores x1 (scaled x0) q) (values x2 r) (Softmax.top (scores x1 (scaled x0) q) (15 + 1)) 16 = _
  rw [hμ]
  exact sum_blocks fun t => x2 (ix4 0 0 r t) * Ideal.exp2 (score x1 (scaled x0) t q - (μ : EReal))

/-- The query column of an element of the result's block. -/
def column (y : S1x4096x256.Idx) : Fin 16384 :=
  ⟨4096 * ((y 2).val / 64) + (y 1).val, by have : (y 2).val < 256 := (y 2).isLt; have : (y 1).val < 4096 := (y 1).isLt; omega⟩

/-- What the body leaves: a quotient of two sums over the keys, with powers of two of the scores less some real number. -/
theorem out_apply (x : Fin 8192 → Fin 16384 → ℝ) (hx : ∀ t q, score x1 (scaled x0) t q = (x t q : EReal))
    (hfix : small (flag arg6 (harg6.unread x3)) = 1#1 → ∃ μ : ℝ, fixed arg6 (harg6.unread x3) = (μ : EReal)) (y : S1x4096x256.Idx) :
    ∃ μ : ℝ, out c i arg3 harg3 arg4 harg4 arg5 harg5 arg6 harg6 arg7 harg7 arg8 harg8 arg9 harg9 arg10 harg10 arg11 harg11 x0 x1 x2 x3 y
      = Ideal.div (∑ t : Fin 8192, x2 (ix4 0 0 ⟨(y 2).val % 64, by omega⟩ t) * Ideal.exp2 (score x1 (scaled x0) t (column y) - (μ : EReal)))
          (∑ t : Fin 8192, x2 (ix4 0 0 64 t) * Ideal.exp2 (score x1 (scaled x0) t (column y) - (μ : EReal))) := by
  unfold out
  split
  · rename_i hc
    obtain ⟨μ, hμ⟩ := hfix hc
    refine ⟨μ, ?_⟩
    rw [runA_quotient, quotient, sumsA_apply, sumsA_apply, hμ]
    rfl
  · rename_i hc
    obtain ⟨μ, hμ⟩ := sumsB_apply c i arg3 harg3 arg4 harg4 arg5 harg5 arg6 harg6 arg7 harg7 arg8 harg8 arg9 harg9 arg10 harg10 arg11 harg11 x0 x1 x2 x hx (column y)
    refine ⟨μ, ?_⟩
    rw [runB_quotient, quotient]
    exact congrArg₂ Ideal.div (hμ _) (hμ _)

end Cert.KernelIdeal.Mixer

end
-- ==== Proof.Mixer.Entry.lean ====
/-
  What the attention kernel is launched with: the arrays that its windows read, as terms over the arguments.
-/
module

public import proofs.«01_k».proof.Proof.Mixer.Block
public import Idealize.ShloMosaic.Lib.StableHlo.ReadAt

@[expose] public section

set_option maxRecDepth 16384

noncomputable section

namespace Cert.KernelIdeal.Mixer

open Cert.KernelIdeal Cert.KernelIdeal.Gen
open Idealize.ShloMosaic Idealize.ShloMosaic.TcCoe Idealize.ShloMosaic.Tactic
open scoped BigOperators

variable (m : (ℓ : Loc nD τ sig) → Buf (Elt Ideal) ℓ) (c : Dev nD)

/-- The queries, feature by position. -/
theorem V_queries (b : Fin 2) (h : Fin 8) (d : Fin 64) (n : Fin 8192) :
    V m c main_v1 (ix4 b h d n) = m ((c : Thread nD τ).loc main_arg0) (ix4 b n h d) := by
  unfold V
  after_reads_at
  try rfl

/-- The keys of a group. -/
theorem V_keys (b : Fin 2) (h : Fin 2) (n : Fin 8192) (d : Fin 64) :
    V m c main_v3 (ix4 b h n d) = m ((c : Thread nD τ).loc main_arg1) (ix4 b n h d) := by
  unfold V
  after_reads_at
  try rfl

/-- The values of a group, feature by position. -/
theorem V_values (b : Fin 2) (h : Fin 2) (r : Fin 80) (hr : r.val < 64) (n : Fin 8192) :
    V m c main_v11 (ix4 b h r n) = m ((c : Thread nD τ).loc main_arg2) (ix4 b n h ⟨r, hr⟩) := by
  unfold V
  after_reads_at
  exact dif_pos hr

/-- Under the values a row of ones. -/
theorem V_ones (b : Fin 2) (h : Fin 2) (n : Fin 8192) : V m c main_v11 (ix4 b h 64 n) = (1 : EReal) := by
  unfold V
  after_reads_at
  show (((1#1 : BitVec 1).toNat : ℝ) : EReal) = 1
  norm_num

/-- The bound on the scores that the launch computes from the two gains. -/
def bound (G H : S64.Idx → EReal) : EReal :=
  Ideal.ofBits FTy.f32 1094474679#32 * Finset.fold max (Ideal.ofBits FTy.f32 4286578688#32) (fun k : Fin 64 => FloatOps.absf (F := Ideal) (φ := .f32) (G (ix1 k))) Finset.univ
    * Finset.fold max (Ideal.ofBits FTy.f32 4286578688#32) (fun k : Fin 64 => FloatOps.absf (F := Ideal) (φ := .f32) (H (ix1 k))) Finset.univ

/-- The flag says that the bound is at most sixty. -/
theorem V_flag : V m c main_v24 (ix1 1) = FloatOps.uitofp (F := Ideal) FTy.f32
    (BitVec.ofBool (decide (bound (m ((c : Thread nD τ).loc main_arg3)) (m ((c : Thread nD τ).loc main_arg4)) ≤ Ideal.ofBits FTy.f32 1114636288#32))) := by
  unfold V
  after_reads_at
  rfl

/-- Where it does, the shift is the bound. -/
theorem V_shift (h : bound (m ((c : Thread nD τ).loc main_arg3)) (m ((c : Thread nD τ).loc main_arg4)) ≤ Ideal.ofBits FTy.f32 1114636288#32) :
    V m c main_v24 (ix1 0) = bound (m ((c : Thread nD τ).loc main_arg3)) (m ((c : Thread nD τ).loc main_arg4)) := by
  unfold V
  after_reads_at
  exact if_pos h

/-- The greatest of finitely many absolute values is not negative. -/
theorem greatest_nonneg (a : EReal) (f : Fin 64 → EReal) :
    0 ≤ Finset.fold max a (fun k : Fin 64 => FloatOps.absf (F := Ideal) (φ := .f32) (f k)) Finset.univ := by
  refine (Finset.le_fold_max _).2 (Or.inr ⟨0, Finset.mem_univ _, ?_⟩)
  show (0 : EReal) ≤ max (f 0) (-(f 0))
  rcases le_total 0 (f 0) with h | h
  · exact le_max_of_le_left h
  · exact le_max_of_le_right (EReal.neg_nonneg.2 h)

/-- The word of sixty. -/
theorem sixty : Ideal.ofBits FTy.f32 1114636288#32 = ((60 : ℝ) : EReal) := by
  simp [Ideal.ofBits, Ideal.ieee]
  rw [← EReal.coe_mul]
  norm_num

/-- The factor in the bound is not negative. -/
theorem factor_nonneg : 0 ≤ Ideal.ofBits FTy.f32 1094474679#32 := by
  simp [Ideal.ofBits, Ideal.ieee]
  positivity

/-- A bound of at most sixty is real. -/
theorem bound_real (G H : S64.Idx → EReal) (h : bound G H ≤ Ideal.ofBits FTy.f32 1114636288#32) : ∃ μ : ℝ, bound G H = (μ : EReal) := by
  have h0 : 0 ≤ bound G H :=
    mul_nonneg (mul_nonneg factor_nonneg (greatest_nonneg _ fun k => G (ix1 k))) (greatest_nonneg _ fun k => H (ix1 k))
  rw [sixty] at h
  exact ⟨(bound G H).toReal, (EReal.coe_toReal (ne_top_of_le_ne_top (EReal.coe_ne_top _) h) (ne_bot_of_le_ne_bot EReal.zero_ne_bot h0)).symm⟩

/-- A flag of zero does not say that the bound is small. -/
theorem not_small : ¬ small (F := Ideal) (0 : EReal) = 1#1 := by
  have h : ¬ Ideal.ofBits FTy.f32 0x3F000000#32 < (0 : EReal) := not_lt.2 (by
    simp [Ideal.ofBits, Ideal.ieee]
    positivity)
  intro hs
  have e : small (F := Ideal) (0 : EReal) = BitVec.ofBool false := congrArg BitVec.ofBool (decide_eq_false h)
  rw [e] at hs
  exact absurd hs (by decide)

/-- Where the body takes the fixed shift, that shift is real. -/
theorem fixed_real (arg6 : Memref sig .tc .smem S2 .f32) (harg6 : arg6.IsWhole) (x3 : Vec Ideal S2 .f32)
    (hx : ∀ y, x3 y = V m c main_v24 y) (hs : small (flag arg6 (harg6.unread x3)) = 1#1) :
    ∃ μ : ℝ, fixed arg6 (harg6.unread x3) = (μ : EReal) := by
  have e0 : fixed arg6 (harg6.unread x3) = x3 (ix1 0) := by
    unfold fixed
    rw [View.readAt_eq_ld, harg6.read_unread]
    refine congrArg x3 ?_
    idx_ext
  have e1 : flag arg6 (harg6.unread x3) = x3 (ix1 1) := by
    unfold flag
    rw [View.readAt_eq_ld, harg6.read_unread]
    refine congrArg x3 ?_
    idx_ext
  rw [e0, hx]
  rw [e1, hx, V_flag] at hs
  by_cases hb : bound (m ((c : Thread nD τ).loc main_arg3)) (m ((c : Thread nD τ).loc main_arg4)) ≤ Ideal.ofBits FTy.f32 1114636288#32
  · rw [V_shift m c hb]
    exact bound_real _ _ hb
  · exfalso
    rw [decide_eq_false hb] at hs
    exact not_small (congrArg small (show FloatOps.uitofp (F := Ideal) FTy.f32 (BitVec.ofBool false) = (0 : EReal) by
      show (((0#1 : BitVec 1).toNat : ℝ) : EReal) = 0
      norm_num) ▸ hs)

end Cert.KernelIdeal.Mixer

end
-- ==== Proof.Mixer.Reference.lean ====
/-
  The reference of the attention: its expression over the arguments, and that expression at an index.
-/
module

public import proofs.«01_k».proof.Proof.Mixer.Trip
public import proofs.«01_k».proof.Proof.Gen.ReferenceIdeal.Run

@[expose] public section

set_option maxRecDepth 16384

noncomputable section

open Idealize.ShloMosaic Idealize.ShloMosaic.TcCoe Idealize.SL.Sem
open scoped BigOperators

namespace Cert.ReferenceIdeal.Mixer

open Cert.ReferenceIdeal Cert.ReferenceIdeal.Gen Idealize.ShloMosaic.StableHlo

/-- The scores: every query against every key of its group, over the root of the head's width. -/
def SCORES (Q : FVec Ideal S2x8192x8x64 .f32) (K : FVec Ideal S2x8192x2x64 .f32) : FVec Ideal S2x2x4x8192x8192 .f32 :=
  mulf (transpose S2x2x4x8192x8192 [0, 1, 4, 3, 2] (Host.dotGeneral dot_S2x8192x2x64_S2x8192x2x4x64_S2x2x8192x8192x4_3_4_1_13_02_02 none K (shapeCast _ Q shapeCasts_S2x8192x8x64_S2x8192x2x4x64)) transposes_S2x2x8192x8192x4_S2x2x4x8192x8192_0_1_4_3_2) (broadcastInDim S2x2x4x8192x8192 ![] bcast_S_S2x2x4x8192x8192 (constant S_ .f32 0x3E000000#32))

/-- The greatest score of every query. -/
def GREATEST (S : FVec Ideal S2x2x4x8192x8192 .f32) : FVec Ideal S2x2x4x8192 .f32 :=
  Host.reduce FloatOps.maximumf S (constant S_ .f32 0xFF800000#32) reducesTo_S2x2x4x8192x8192_S2x2x4x8192_d4 h_S_

/-- The exponentials of the scores, the row's maximum subtracted. -/
def WEIGHTS (S : FVec Ideal S2x2x4x8192x8192 .f32) (M : FVec Ideal S2x2x4x8192 .f32) : FVec Ideal S2x2x4x8192x8192 .f32 :=
  Host.exp (subf S (broadcastInDim S2x2x4x8192x8192 ![0, 1, 2, 3, 4] bcast_S2x2x4x8192x1_S2x2x4x8192x8192_0_1_2_3_4 (broadcastInDim S2x2x4x8192x1 ![0, 1, 2, 3] bcast_S2x2x4x8192_S2x2x4x8192x1_0_1_2_3 (maximumf (broadcastInDim S2x2x4x8192 ![] bcast_S_S2x2x4x8192 (constant S_ .f32 0xFF800000#32)) M))))

/-- The values mixed by the exponentials, every row of these over its sum. -/
def MIXED (W : FVec Ideal S2x2x4x8192x8192 .f32) (V : FVec Ideal S2x8192x2x64 .f32) : FVec Ideal S2x8192x512 .bf16 :=
  truncf .bf16 (shapeCast S2x8192x512 (transpose S2x8192x2x4x64 [0, 4, 1, 3, 2] (Host.dotGeneral dot_S2x8192x2x64_S2x2x4x8192x8192_S2x2x64x4x8192_1_4_3_23_02_01 none V (Host.divf W (broadcastInDim S2x2x4x8192x8192 ![0, 1, 2, 3, 4] bcast_S2x2x4x8192x1_S2x2x4x8192x8192_0_1_2_3_4 (broadcastInDim S2x2x4x8192x1 ![0, 1, 2, 3] bcast_S2x2x4x8192_S2x2x4x8192x1_0_1_2_3 (Host.reduceAdd W (constant S_ .f32 0x00000000#32) reducesTo_S2x2x4x8192x8192_S2x2x4x8192_d4 h_S_))))) transposes_S2x2x64x4x8192_S2x8192x2x4x64_0_4_1_3_2) shapeCasts_S2x8192x2x4x64_S2x8192x512) bitsLt_bf16_f32

/-- The reference's expression, over its three arguments. -/
def REF (Q : FVec Ideal S2x8192x8x64 .f32) (K V : FVec Ideal S2x8192x2x64 .f32) : FVec Ideal S2x8192x512 .bf16 :=
  MIXED (WEIGHTS (SCORES Q K) (GREATEST (SCORES Q K))) V

/-- The reference's run, with its result named. -/
theorem run_result (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v19) = REF (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Cert.ReferenceIdeal.Value.run (F := Ideal) m ρ

/-- A score. -/
theorem scores_apply (Q : FVec Ideal S2x8192x8x64 .f32) (K : FVec Ideal S2x8192x2x64 .f32) (b : Fin 2) (kv : Fin 2) (g : Fin 4)
    (n t : Fin 8192) : SCORES Q K (ix5 b kv g n t)
      = (∑ d : Fin 64, K (ix4 b t kv d) * Q (ix4 b n ⟨kv * 4 + g, by omega⟩ d)) * Ideal.ofBits FTy.f32 1040187392#32 := by
  pointwise [SCORES]

/-- The greatest score. -/
theorem greatest_apply (S : FVec Ideal S2x2x4x8192x8192 .f32) (b : Fin 2) (kv : Fin 2) (g : Fin 4) (n : Fin 8192) :
    GREATEST S (ix4 b kv g n)
      = Finset.fold max (Ideal.ofBits FTy.f32 4286578688#32) (fun u : Fin 8192 => S (ix5 b kv g n u)) Finset.univ := by
  pointwise [GREATEST]

/-- An exponential. -/
theorem weights_apply (S : FVec Ideal S2x2x4x8192x8192 .f32) (M : FVec Ideal S2x2x4x8192 .f32) (b : Fin 2) (kv : Fin 2)
    (g : Fin 4) (n t : Fin 8192) : WEIGHTS S M (ix5 b kv g n t)
      = Ideal.exp (S (ix5 b kv g n t) - max (Ideal.ofBits FTy.f32 4286578688#32) (M (ix4 b kv g n))) := by
  pointwise [WEIGHTS]

/-- The result over the exponentials. -/
theorem mixed_apply (W : FVec Ideal S2x2x4x8192x8192 .f32) (V : FVec Ideal S2x8192x2x64 .f32) (b : Fin 2) (n : Fin 8192) (e : Fin 512) :
    MIXED W V (ix3 b n e) = ∑ t : Fin 8192, V (ix4 b t ⟨e / 256, by omega⟩ ⟨e % 64, by omega⟩)
      * Ideal.div (W (ix5 b ⟨e / 256, by omega⟩ ⟨e / 64 % 4, by omega⟩ n t))
          (∑ u : Fin 8192, W (ix5 b ⟨e / 256, by omega⟩ ⟨e / 64 % 4, by omega⟩ n u)) := by
  pointwise [MIXED]

end Cert.ReferenceIdeal.Mixer
-- ==== Proof.Mixer.Value.lean ====
/-
  Grouped-query attention: where queries and keys are finite, the kernel's result array after the run is the reference's
  expression of the arguments.
-/
module

public import proofs.«01_k».proof.Proof.Mixer.Entry
public import proofs.«01_k».proof.Proof.Mixer.Reference

@[expose] public section

set_option maxRecDepth 16384

noncomputable section

open Idealize.ShloMosaic Idealize.ShloMosaic.TcCoe Idealize.SL.Sem
open Idealize.ShloMosaic.Pipeline (Dat)
open scoped BigOperators

namespace Cert.ReferenceIdeal.Mixer

open Cert.ReferenceIdeal Cert.ReferenceIdeal.Gen

/-- The word of one eighth. -/
theorem eighth : Ideal.ofBits FTy.f32 1040187392#32 = ((1 / 8 : ℝ) : EReal) := by
  simp [Ideal.ofBits, Ideal.ieee]
  rw [← EReal.coe_mul]
  norm_num

/-- A number less a real one, in the exponential. -/
theorem exp_real (x M : ℝ) : Ideal.exp ((x : EReal) - (M : EReal)) = ((Real.exp (x - M) : ℝ) : EReal) := by
  rw [← EReal.coe_sub]
  rfl

/-- The reference at an index whose scores are real. -/
theorem ref_real (Q : FVec Ideal S2x8192x8x64 .f32) (K V : FVec Ideal S2x8192x2x64 .f32) (b : Fin 2) (n : Fin 8192) (e : Fin 512)
    (x : Fin 8192 → ℝ)
    (hx : ∀ t : Fin 8192, ∑ d : Fin 64, K (ix4 b t ⟨e / 256, by omega⟩ d) * Q (ix4 b n ⟨e / 64, by omega⟩ d) = (x t : EReal)) :
    ∃ M : ℝ, REF Q K V (ix3 b n e) = ∑ t : Fin 8192, V (ix4 b t ⟨e / 256, by omega⟩ ⟨e % 64, by omega⟩)
      * Ideal.div ((Real.exp (x t * (1 / 8) - M) : ℝ) : EReal) (∑ u : Fin 8192, ((Real.exp (x u * (1 / 8) - M) : ℝ) : EReal)) := by
  have hs : ∀ t : Fin 8192, SCORES Q K (ix5 b ⟨e / 256, by omega⟩ ⟨e / 64 % 4, by omega⟩ n t) = ((x t * (1 / 8) : ℝ) : EReal) := fun t => by
    rw [scores_apply, eighth, EReal.coe_mul, ← hx t]
    refine congrArg (· * _) (Finset.sum_congr rfl fun d _ => congrArg (_ * ·) (congrArg Q ?_))
    refine congrArg (fun h => ix4 b n h d) (Fin.ext ?_)
    show e.val / 256 * 4 + e.val / 64 % 4 = e.val / 64
    omega
  obtain ⟨M, hM⟩ := Cert.Softmax.fold_max_real (n := 8192) (by norm_num) fun t => x t * (1 / 8)
  have hw : ∀ t : Fin 8192, WEIGHTS (SCORES Q K) (GREATEST (SCORES Q K)) (ix5 b ⟨e / 256, by omega⟩ ⟨e / 64 % 4, by omega⟩ n t)
      = ((Real.exp (x t * (1 / 8) - M) : ℝ) : EReal) := fun t => by
    rw [weights_apply, greatest_apply, Cert.Softmax.neg_inf, hs t]
    simp only [hs]
    rw [hM, max_eq_right bot_le, exp_real]
  refine ⟨M, ?_⟩
  unfold REF
  rw [mixed_apply]
  simp only [hw]

end Cert.ReferenceIdeal.Mixer

namespace Cert.KernelIdeal.Mixer

open Cert.KernelIdeal Cert.KernelIdeal.Gen

section Block

variable (c : Dev nD) (i : grid0.Coords) (arg3 : Memref sig .tc .vmem S1x4x64x4096 .bf16) (harg3 : arg3.IsWhole) (arg4 : Memref sig .tc .vmem S1x1x8192x64 .bf16) (harg4 : arg4.IsWhole) (arg5 : Memref sig .tc .vmem S1x1x80x8192 .bf16) (harg5 : arg5.IsWhole) (arg6 : Memref sig .tc .smem S2 .f32) (harg6 : arg6.IsWhole) (arg7 : Memref sig .tc .vmem S1x4096x256 .bf16) (harg7 : arg7.IsWhole) (arg8 : Memref sig .tc .vmem S64x16384 .bf16) (harg8 : arg8.IsWhole) (arg9 : Memref sig .tc .vmem S1x16384 .f32) (harg9 : arg9.IsWhole) (arg10 : Memref sig .tc .vmem S80x16384 .f32) (harg10 : arg10.IsWhole) (arg11 : Memref sig .tc .vmem S512x512 .f32) (harg11 : arg11.IsWhole)
  (x0 : Vec Ideal S1x4x64x4096 .bf16) (x1 : Vec Ideal S1x1x8192x64 .bf16) (x2 : Vec Ideal S1x1x80x8192 .bf16) (x3 : Vec Ideal S2 .f32)

/-- Query `d` of column `q` of a block of queries. -/
def query (q : Fin 16384) (d : Fin 64) : EReal := x0 (ix4 0 ⟨q / 4096, by omega⟩ d ⟨q % 4096, by omega⟩)

/-- The scaled score is the score scaled. -/
theorem score_scaled (t : Fin 8192) (q : Fin 16384) (x : ℝ) (hx : ∑ d : Fin 64, x1 (ix4 0 0 t d) * query x0 q d = (x : EReal)) :
    score x1 (scaled x0) t q = ((x * (8 * Real.log 2)⁻¹ : ℝ) : EReal) := by
  have h0 : (0 : ℝ) ≤ (8 * Real.log 2)⁻¹ := inv_nonneg.2 (mul_nonneg (by norm_num) (Real.log_pos (by norm_num)).le)
  rw [EReal.coe_mul, ← hx, mul_comm, Softmax.mul_sum _ _ h0]
  refine Finset.sum_congr rfl fun d _ => ?_
  show x1 (ix4 0 0 t d) * (query x0 q d * _) = _
  rw [← mul_assoc, mul_comm]

/-- An element of the body's result: the values of its group mixed by the softmax of its query's scores over eight. -/
theorem out_real (x : Fin 8192 → Fin 16384 → ℝ) (hx : ∀ t q, ∑ d : Fin 64, x1 (ix4 0 0 t d) * query x0 q d = (x t q : EReal))
    (hone : ∀ t : Fin 8192, x2 (ix4 0 0 64 t) = (1 : EReal))
    (hfix : small (flag arg6 (harg6.unread x3)) = 1#1 → ∃ μ : ℝ, fixed arg6 (harg6.unread x3) = (μ : EReal)) (y : S1x4096x256.Idx) (M : ℝ) :
    out c i arg3 harg3 arg4 harg4 arg5 harg5 arg6 harg6 arg7 harg7 arg8 harg8 arg9 harg9 arg10 harg10 arg11 harg11 x0 x1 x2 x3 y
      = ∑ t : Fin 8192, x2 (ix4 0 0 ⟨(y 2).val % 64, by omega⟩ t)
        * Ideal.div ((Real.exp (x t (column y) * (1 / 8) - M) : ℝ) : EReal) (∑ u : Fin 8192, ((Real.exp (x u (column y) * (1 / 8) - M) : ℝ) : EReal)) := by
  obtain ⟨μ, h⟩ := out_apply c i arg3 harg3 arg4 harg4 arg5 harg5 arg6 harg6 arg7 harg7 arg8 harg8 arg9 harg9 arg10 harg10 arg11 harg11 x0 x1 x2 x3
    (fun t q => x t q * (8 * Real.log 2)⁻¹) (fun t q => score_scaled x0 x1 t q (x t q) (hx t q)) hfix y
  rw [h]
  simp only [score_scaled x0 x1 _ _ _ (hx _ _), Softmax.exp2_scaled, hone, one_mul]
  exact Softmax.shift (by norm_num) (fun t => x t (column y) * (1 / 8)) (μ * Real.log 2) M _

end Block

variable (m : (ℓ : Loc nD τ sig) → Buf (Elt Ideal) ℓ) (c : Dev nD)

/-- The block indices of the windows at a grid point. -/
theorem idx : ∀ t : Fin cfg0.N, win0_0.index t = ![t.val / 4, t.val / 2 % 2, 0, t.val % 2] ∧ win0_1.index t = ![t.val / 4, t.val / 2 % 2, 0, 0]
    ∧ win0_2.index t = ![t.val / 4, t.val / 2 % 2, 0, 0] ∧ win0_3.index t = ![0] ∧ win0_4.index t = ![t.val / 4, t.val % 2, t.val / 2 % 2] :=
  (by decide +kernel : ∀ t : Fin grid0.N, _)

/-- The blocks at a grid point, as the arguments' elements. -/
theorem block_queries (t : Fin cfg0.N) (ht : t.val < 8) (g : Fin 4) (d : Fin 64) (n : Fin 4096) : iblk m c 0 t (ix4 0 g d n)
    = m ((c : Thread nD τ).loc main_arg0) (ix4 ⟨t / 4, by omega⟩ ⟨4096 * (t % 2) + n, by omega⟩ ⟨4 * (t / 2 % 2) + g, by omega⟩ d) := by
  refine Eq.trans ?_ (V_queries m c ⟨t / 4, by omega⟩ ⟨4 * (t / 2 % 2) + g, by omega⟩ d ⟨4096 * (t % 2) + n, by omega⟩)
  have hi := idx t
  unfold iblk
  refine congrArg (V m c main_v1) ?_
  blk_ext [idx t]

theorem block_keys (t : Fin cfg0.N) (ht : t.val < 8) (n : Fin 8192) (d : Fin 64) : iblk m c 1 t (ix4 0 0 n d)
    = m ((c : Thread nD τ).loc main_arg1) (ix4 ⟨t / 4, by omega⟩ n ⟨t / 2 % 2, by omega⟩ d) := by
  refine Eq.trans ?_ (V_keys m c ⟨t / 4, by omega⟩ ⟨t / 2 % 2, by omega⟩ n d)
  have hi := idx t
  unfold iblk
  refine congrArg (V m c main_v3) ?_
  blk_ext [idx t]

theorem block_values (t : Fin cfg0.N) (ht : t.val < 8) (r : Fin 80) (hr : r.val < 64) (n : Fin 8192) : iblk m c 2 t (ix4 0 0 r n)
    = m ((c : Thread nD τ).loc main_arg2) (ix4 ⟨t / 4, by omega⟩ n ⟨t / 2 % 2, by omega⟩ ⟨r, hr⟩) := by
  refine Eq.trans ?_ (V_values m c ⟨t / 4, by omega⟩ ⟨t / 2 % 2, by omega⟩ r hr n)
  have hi := idx t
  unfold iblk
  refine congrArg (V m c main_v11) ?_
  blk_ext [idx t]

theorem block_ones (t : Fin cfg0.N) (ht : t.val < 8) (n : Fin 8192) : iblk m c 2 t (ix4 0 0 64 n) = (1 : EReal) := by
  refine Eq.trans ?_ (V_ones m c ⟨t / 4, by omega⟩ ⟨t / 2 % 2, by omega⟩ n)
  have hi := idx t
  unfold iblk
  refine congrArg (V m c main_v11) ?_
  blk_ext [idx t]

theorem block_shift (t : Fin cfg0.N) (y : S2.Idx) : iblk m c 3 t y = V m c main_v24 y := by
  have hi := idx t
  unfold iblk
  refine congrArg (V m c main_v24) ?_
  blk_ext [idx t]

/-- Products of real vectors are real. -/
theorem dot_real (k q : Fin 64 → ℝ) : ∑ d : Fin 64, (k d : EReal) * (q d : EReal) = ((∑ d : Fin 64, k d * q d : ℝ) : EReal) := by
  rw [Softmax.coe_sum]
  exact Finset.sum_congr rfl fun d _ => (EReal.coe_mul _ _).symm

/-- Equal scores and equal values mix equally. -/
theorem mixed_congr (s s' : Fin 8192 → ℝ) (w w' : Fin 8192 → EReal) (M : ℝ) (hs : ∀ u, s u = s' u) (hw : ∀ u, w u = w' u) :
    ∑ t : Fin 8192, w t * Ideal.div ((Real.exp (s t * (1 / 8) - M) : ℝ) : EReal) (∑ u : Fin 8192, ((Real.exp (s u * (1 / 8) - M) : ℝ) : EReal))
      = ∑ t : Fin 8192, w' t * Ideal.div ((Real.exp (s' t * (1 / 8) - M) : ℝ) : EReal) (∑ u : Fin 8192, ((Real.exp (s' u * (1 / 8) - M) : ℝ) : EReal)) := by
  obtain rfl : s = s' := funext hs
  obtain rfl : w = w' := funext hw
  rfl

/-- The result array after the run, where queries and keys are real. -/
theorem final (Q : S2x8192x8x64.Idx → ℝ) (K : S2x8192x2x64.Idx → ℝ)
    (hQ : ∀ y, m ((c : Thread nD τ).loc main_arg0) y = (Q y : EReal)) (hK : ∀ y, m ((c : Thread nD τ).loc main_arg1) y = (K y : EReal)) :
    (dats m 0 c).arrAt 4 (cfgs 0).N = Cert.ReferenceIdeal.Mixer.REF (m ((c : Thread nD τ).loc main_arg0))
      (m ((c : Thread nD τ).loc main_arg1)) (m ((c : Thread nD τ).loc main_arg2)) := by
  refine (dats m 0 c).arrAt_eq_of_covers 4 _ (by decide +kernel) fun t _ y => ?_
  have ht : t.val < 8 := t.isLt
  have hi := idx t
  blk_simp
  obtain ⟨n, e, rfl⟩ : ∃ (n : Fin 4096) (e : Fin 256), y = ix3 0 n e := ⟨y 1, y 2, by idx_ext⟩
  obtain ⟨M, hM⟩ := Cert.ReferenceIdeal.Mixer.ref_real (m ((c : Thread nD τ).loc main_arg0)) (m ((c : Thread nD τ).loc main_arg1))
    (m ((c : Thread nD τ).loc main_arg2)) ⟨t / 4, by omega⟩ ⟨4096 * (t % 2) + n, by omega⟩ ⟨256 * (t / 2 % 2) + e, by omega⟩
    (fun u => ∑ d : Fin 64, K (ix4 ⟨t / 4, by omega⟩ u ⟨t / 2 % 2, by omega⟩ d)
      * Q (ix4 ⟨t / 4, by omega⟩ ⟨4096 * (t % 2) + n, by omega⟩ ⟨4 * (t / 2 % 2) + e / 64, by omega⟩ d)) (fun u => by
      rw [← dot_real]
      refine Finset.sum_congr rfl fun d _ => ?_
      rw [hK, hQ]
      refine congrArg₂ (fun a b => ((K a : ℝ) : EReal) * ((Q b : ℝ) : EReal)) ?_ ?_
      · idx_ext
      · idx_ext)
  have key := out_real c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (iblk m c 0 t) (iblk m c 1 t) (iblk m c 2 t) (iblk m c 3 t)
    (fun u q => ∑ d : Fin 64, K (ix4 ⟨t / 4, by omega⟩ u ⟨t / 2 % 2, by omega⟩ d)
      * Q (ix4 ⟨t / 4, by omega⟩ ⟨4096 * (t % 2) + q % 4096, by omega⟩ ⟨4 * (t / 2 % 2) + q / 4096, by omega⟩ d))
    (fun u q => by
      rw [← dot_real]
      refine Finset.sum_congr rfl fun d _ => ?_
      unfold query
      rw [block_keys m c t ht, block_queries m c t ht, hK, hQ])
    (block_ones m c t ht) (fixed_real m c (ms3 t) (hs3 t) (iblk m c 3 t) (block_shift m c t)) (ix3 0 n e) M
  rw [after4]
  unfold outsAt
  refine key.trans (Eq.trans ?_ (hM.symm.trans (congrArg _ ?_)))
  · have hc : ∀ u : Fin 8192, ∑ d : Fin 64, K (ix4 ⟨t / 4, by omega⟩ u ⟨t / 2 % 2, by omega⟩ d)
        * Q (ix4 ⟨t / 4, by omega⟩ ⟨4096 * (t % 2) + column (ix3 0 n e) % 4096, by omega⟩
          ⟨4 * (t / 2 % 2) + column (ix3 0 n e) / 4096, by have := (column (ix3 0 n e)).isLt; omega⟩ d)
        = ∑ d : Fin 64, K (ix4 ⟨t / 4, by omega⟩ u ⟨t / 2 % 2, by omega⟩ d)
        * Q (ix4 ⟨t / 4, by omega⟩ ⟨4096 * (t % 2) + n, by omega⟩ ⟨4 * (t / 2 % 2) + e / 64, by omega⟩ d) := fun u => by
      have hv : (column (ix3 0 n e)).val = 4096 * (e / 64) + n := rfl
      refine Finset.sum_congr rfl fun d _ => congrArg (_ * Q ·) ?_
      have h1 : 4096 * (t.val % 2) + (column (ix3 0 n e)).val % 4096 = 4096 * (t % 2) + n := by omega
      have h2 : 4 * (t.val / 2 % 2) + (column (ix3 0 n e)).val / 4096 = 4 * (t / 2 % 2) + e / 64 := by omega
      exact congrArg₂ (fun a b => ix4 _ a b d) (Fin.ext h1) (Fin.ext h2)
    refine mixed_congr _ _ _ _ M hc fun u => ?_
    refine (block_values m c t ht _ (Nat.mod_lt _ (by norm_num)) u).trans (congrArg _ ?_)
    idx_ext
  · blk_ext [idx t]

/-- The run, with the result array named. -/
theorem run_result (ρ : Dev nD → PrngReg) : θ_run defs (onTc (τ := τ) (main (F := Ideal))) ⟨m, fun _ => 0, ρ⟩ (fun r => ∀ c : Dev nD,
      r.2.mem ((c.tc : Thread nD τ).loc main_v25) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 4, h.2 c⟩)
    (θ_run_and (run_main m ρ) (unchanged m ρ))

end Cert.KernelIdeal.Mixer

end
-- ==== Proof.Mixer.Finite.lean ====
/-
  What the precondition says: every element of the queries and of the keys is a real number.
-/
module

public import proofs.«01_k».proof.Pre_finite_scores
public import Idealize.ShloMosaic.PureOps.Ideal
public import Idealize.ShloMosaic.Lib.Pointwise

@[expose] public section

noncomputable section

namespace Cert.Pre_finite_scores

open Idealize.ShloMosaic

/-- The facts that the predicate's operations take. -/
instance facts : Facts := ⟨by decide, by decide⟩

/-- The word of plus infinity. -/
theorem pos_inf : Ideal.ofBits .f32 0x7F800000#32 = ⊤ := by
  simp [Ideal.ofBits, Ideal.ieee]

/-- An extended real of absolute value below infinity is real. -/
theorem real_of_abs (x : EReal) (h : max x (-x) < ⊤) : ∃ r : ℝ, x = (r : EReal) := by
  refine ⟨x.toReal, (EReal.coe_toReal (lt_of_le_of_lt (le_max_left _ _) h).ne fun hb => ?_).symm⟩
  rw [hb] at h
  exact absurd h (by simp)

/-- An element whose comparison word is one is real. -/
theorem real_of_word (x : EReal) (h : BitVec.ofBool (decide (max x (-x) < Ideal.ofBits .f32 0x7F800000#32)) = 1#1) :
    ∃ r : ℝ, x = (r : EReal) := by
  rw [pos_inf] at h
  refine real_of_abs x (by_contra fun hn => ?_)
  rw [decide_eq_false hn] at h
  exact absurd h (by decide)

variable (Q : FVec Ideal S2x8192x8x64 .f32) (K V : FVec Ideal S2x8192x2x64 .f32) (G H : FVec Ideal S64 .f32)

/-- The queries are real. -/
theorem queries_real (h : (fn (F := Ideal) Q K V G H).1 = fun _ => 1#1) : ∃ q : S2x8192x8x64.Idx → ℝ, ∀ y, Q y = (q y : EReal) :=
  ⟨fun y => (real_of_word (Q y) (congrFun h y)).choose, fun y => (real_of_word (Q y) (congrFun h y)).choose_spec⟩

/-- The keys are real. -/
theorem keys_real (h : (fn (F := Ideal) Q K V G H).2 = fun _ => 1#1) : ∃ k : S2x8192x2x64.Idx → ℝ, ∀ y, K y = (k y : EReal) :=
  ⟨fun y => (real_of_word (K y) (congrFun h y)).choose, fun y => (real_of_word (K y) (congrFun h y)).choose_spec⟩

end Cert.Pre_finite_scores

end
-- ==== Proof.Ffn.Block.lean ====
/-
  The gated feed-forward call, one block of 512 rows at a time: what the body leaves in the output block, as plain sums
  over the rows of its input blocks.
-/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Ffn

open Cert.Kernel2Ideal Cert.Kernel2Ideal.Gen

section Model

variable (X : FVec Ideal S512x1024 .f32) (G : FVec Ideal S1x1024 .f32) (U : FVec Ideal S1x1024x5632 .f32) (W : FVec Ideal S1x2816x1024 .f32)

/-- A normalised row: the row over the root of its mean square, times the gain. -/
def normed (r : Fin 512) (k : Fin 1024) : EReal :=
  X (ix2 r k) * Ideal.rsqrt (Ideal.div (∑ d : Fin 1024, X (ix2 r d) * X (ix2 r d)) (Ideal.ofBits FTy.f32 1149239296#32) +
    Ideal.ofBits FTy.f32 897988541#32) * G (ix2 0 k)

/-- A normalised row times one column of the up projection. -/
def up (r : Fin 512) (j : Fin 5632) : EReal := ∑ k : Fin 1024, normed X G r k * U (ix3 0 k j)

/-- The hidden layer: the first half's columns through the sigmoid-weighted unit, times the second half's. -/
def hidden (r : Fin 512) (j : Fin 2816) : EReal :=
  up X G U r ⟨j, by omega⟩ * Ideal.logistic (up X G U r ⟨j, by omega⟩) * up X G U r ⟨2816 + j, by omega⟩

/-- A row of the result: the residual row plus the hidden row times the down projection. -/
def block (r : Fin 512) (e : Fin 1024) : EReal := X (ix2 r e) + ∑ j : Fin 2816, hidden X G U r j * W (ix3 0 j e)

/-- The body normalises its rows as `normed` says. -/
theorem pay4_apply (r : Fin 512) (k : Fin 1024) : k0_pay4 (F := Ideal) X G (ix2 r k) = normed X G r k := by
  pointwise [k0_pay4, k0_pay3, normed]

/-- One chunk of 256 hidden columns, from the chunk's two column blocks of the up projection. -/
def chunk (A B : FVec Ideal S1x1024x256 .f32) : FVec Ideal S512x256 .bf16 := k0_pay8 (k0_pay4 X G) A B

/-- A chunk at column offset `o` holds the hidden layer's columns from `o` on. -/
theorem chunk_apply (o o' : ℕ) (ho : o' = 2816 + o) (i : ∀ a, ![0, 0, o] a + ![1, 1024, 256] a ≤ S1x1024x5632.size a)
    (i' : ∀ a, ![0, 0, o'] a + ![1, 1024, 256] a ≤ S1x1024x5632.size a) (x : S512x256.Idx) (r : Fin 512) (j : Fin 2816)
    (hr : (r : ℕ) = (x 0 : ℕ)) (hj : (j : ℕ) = o + (x 1 : ℕ)) :
    chunk X G (View.ld (Val := Elt Ideal) (e' := .f32) U (Rect.unit (s := S1x1024x5632) ![0, 0, o] ![1, 1024, 256] i))
      (View.ld (Val := Elt Ideal) (e' := .f32) U (Rect.unit (s := S1x1024x5632) ![0, 0, o'] ![1, 1024, 256] i')) x
      = hidden X G U r j := by
  subst ho
  idx_vars x
  obtain rfl : r = x0 := Fin.ext hr
  have h1 : ∀ k : Fin 1024, U (ix3 0 k ⟨o + x1, by omega⟩) = U (ix3 0 k ⟨j, by omega⟩) := fun k => by simp only [hj]
  have h2 : ∀ k : Fin 1024, U (ix3 0 k ⟨2816 + o + x1, by omega⟩) = U (ix3 0 k ⟨2816 + j, by omega⟩) := fun k => by
    simp only [hj, Nat.add_assoc]
  pointwise [chunk, k0_pay8]
  simp only [pay4_apply, hidden, up, h1, h2]

/-- The two halves of the down projection onto the residual: one sum over all 2816 hidden columns. -/
theorem down_apply (H : FVec Ideal S512x2816 .bf16) (r : Fin 512) (e : Fin 1024) :
    k0_pay2 (F := Ideal) (k0_pay3 X) (View.ld (Val := Elt Ideal) (e' := .bf16) H (Rect.unit ![0, 0] ![512, 1408] inb_S512x2816_S512x1408_0_0))
      (View.ld (Val := Elt Ideal) (e' := .f32) W (Rect.unit ![0, 0, 0] ![1, 1408, 1024] inb_S1x2816x1024_S1x1408x1024_0_0_0))
      (View.ld (Val := Elt Ideal) (e' := .bf16) H (Rect.unit ![0, 1408] ![512, 1408] inb_S512x2816_S512x1408_0_1408))
      (View.ld (Val := Elt Ideal) (e' := .f32) W (Rect.unit ![0, 1408, 0] ![1, 1408, 1024] inb_S1x2816x1024_S1x1408x1024_0_1408_0)) (ix2 r e)
      = X (ix2 r e) + ∑ j : Fin 2816, H (ix2 r j) * W (ix3 0 j e) := by
  rw [Fin.sum_univ_two_halves 1408 1408 rfl (fun j : Fin 2816 => H (ix2 r j) * W (ix3 0 j e)), ← add_assoc]
  pointwise [k0_pay2, k0_pay3]

/-- The body's result from its stored hidden chunks: `L` is whatever list of stores fills the scratch with the hidden layer. -/
theorem body_of_stored (v : View sig .tc .vmem S512x2816 .bf16) (L : List (View.Piece (Elt Ideal) S512x2816 .bf16))
    (hL : ∀ (r : Fin 512) (j : Fin 2816), View.canon L (ix2 r j) = hidden X G U r j) (r : Fin 512) (e : Fin 1024) :
    k0_pay2 (F := Ideal) (k0_pay3 X) (View.readCov (Val := Elt Ideal) v L (Rect.unit (s := S512x2816) ![0, 0] ![512, 1408] inb_S512x2816_S512x1408_0_0).toLoadRect : FVec Ideal S512x1408 .bf16)
      (View.ld (Val := Elt Ideal) (e' := .f32) W (Rect.unit ![0, 0, 0] ![1, 1408, 1024] inb_S1x2816x1024_S1x1408x1024_0_0_0))
      (View.readCov (Val := Elt Ideal) v L (Rect.unit (s := S512x2816) ![0, 1408] ![512, 1408] inb_S512x2816_S512x1408_0_1408).toLoadRect : FVec Ideal S512x1408 .bf16)
      (View.ld (Val := Elt Ideal) (e' := .f32) W (Rect.unit ![0, 1408, 0] ![1, 1408, 1024] inb_S1x2816x1024_S1x1408x1024_0_1408_0)) (ix2 r e)
      = block X G U W r e := by
  rw [View.readCov_eq_canon', View.readCov_eq_canon']
  refine (down_apply X W (View.canon L) r e).trans ?_
  simp only [hL, block]

end Model

variable (m : (ℓ : Loc nD τ sig) → Buf (Elt Ideal) ℓ)

/-- What the body leaves in the output block at a grid point. -/
theorem after_apply (c : Dev nD) (t : Fin cfg0.N) (r : Fin 512) (e : Fin 1024) :
    (dats m 0 c).after 4 t (ix2 r e) = block (iblk m c 0 t) (iblk m c 1 t) (iblk m c 2 t) (iblk m c 3 t) r e := by
  rw [after0_4, outsAt0]
  frame_out
  refine body_of_stored (iblk m c 0 t) (iblk m c 1 t) (iblk m c 2 t) (iblk m c 3 t) _ _ (fun r j => ?_) r e
  canon_tiles x h
  all_goals refine chunk_apply _ _ _ _ _ rfl _ _ x r j h0 ?_
  all_goals first | exact h1 | exact h1.trans (Nat.zero_add _).symm

end Cert.Kernel2Ideal.Ffn
-- ==== Proof.Ffn.Value.lean ====
/-
  The gated feed-forward call: its result array after the run is the reference's own expression of the arguments.
-/
module

public import proofs.«01_k».proof.Proof.Ffn.Block
public import proofs.«01_k».proof.Proof.Gen.Reference2Ideal.Run

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Ffn

section Reference

open Cert.Reference2Ideal Cert.Reference2Ideal.Gen Idealize.ShloMosaic.StableHlo

/-- The reference's up projection of the normalised rows. -/
def UP (X : FVec Ideal S2x8192x1024 .f32) (N : FVec Ideal S2x1024 .f32) (U : FVec Ideal S2x1024x5632 .f32) : FVec Ideal S2x8192x5632 .f32 :=
  Host.dotGeneral dot_S2x8192x1024_S1024x5632_S2x8192x5632_2_0_01_1_n_n none (mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast S1024 (extractStridedSlice S1x1024 ![1, 0] N slices_S2x1024_S1x1024_1_0) shapeCasts_S1x1024_S1024)))) (shapeCast S1024x5632 (extractStridedSlice S1x1024x5632 ![1, 0, 0] U slices_S2x1024x5632_S1x1024x5632_1_0_0) shapeCasts_S1x1024x5632_S1024x5632)

/-- The reference's expression, over its four arguments. -/
def REF (X : FVec Ideal S2x8192x1024 .f32) (N : FVec Ideal S2x1024 .f32) (U : FVec Ideal S2x1024x5632 .f32)
    (W : FVec Ideal S2x2816x1024 .f32) : FVec Ideal S16384x1024 .f32 :=
  shapeCast S16384x1024 (addf X (Host.dotGeneral dot_S2x8192x2816_S2816x1024_S2x8192x1024_2_0_01_1_n_n none (mulf (mulf (extractStridedSlice S2x8192x2816 ![0, 0, 0] (UP X N U) slices_S2x8192x5632_S2x8192x2816_0_0_0) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (extractStridedSlice S2x8192x2816 ![0, 0, 0] (UP X N U) slices_S2x8192x5632_S2x8192x2816_0_0_0)))))) (extractStridedSlice S2x8192x2816 ![0, 0, 2816] (UP X N U) slices_S2x8192x5632_S2x8192x2816_0_0_2816)) (shapeCast S2816x1024 (extractStridedSlice S1x2816x1024 ![1, 0, 0] W slices_S2x2816x1024_S1x2816x1024_1_0_0) shapeCasts_S1x2816x1024_S2816x1024))) shapeCasts_S2x8192x1024_S16384x1024

/-- It is what the reference's run leaves. -/
theorem res_eq (m : (ℓ : Loc Cert.Reference2Ideal.nD Cert.Reference2Ideal.τ Cert.Reference2Ideal.sig) → Buf (Elt Ideal) ℓ)
    (c : Dev Cert.Reference2Ideal.nD) :
    Cert.Reference2Ideal.Value.res_out0 (F := Ideal) m c
      = REF (m ((c.tc : Thread Cert.Reference2Ideal.nD Cert.Reference2Ideal.τ).loc Cert.Reference2Ideal.main_arg0))
      (m ((c.tc : Thread Cert.Reference2Ideal.nD Cert.Reference2Ideal.τ).loc Cert.Reference2Ideal.main_arg1))
      (m ((c.tc : Thread Cert.Reference2Ideal.nD Cert.Reference2Ideal.τ).loc Cert.Reference2Ideal.main_arg2))
      (m ((c.tc : Thread Cert.Reference2Ideal.nD Cert.Reference2Ideal.τ).loc Cert.Reference2Ideal.main_arg3)) := rfl

/-- A row of a block whose operands are the arguments' rows is the reference's row. -/
theorem block_eq (X : FVec Ideal S2x8192x1024 .f32) (N : FVec Ideal S2x1024 .f32) (U : FVec Ideal S2x1024x5632 .f32)
    (W : FVec Ideal S2x2816x1024 .f32) (B0 : FVec Ideal Cert.Kernel2Ideal.S512x1024 .f32) (B1 : FVec Ideal Cert.Kernel2Ideal.S1x1024 .f32)
    (B2 : FVec Ideal Cert.Kernel2Ideal.S1x1024x5632 .f32) (B3 : FVec Ideal Cert.Kernel2Ideal.S1x2816x1024 .f32)
    (r : Fin 512) (i : Fin 16384) (e : Fin 1024)
    (h0 : ∀ k : Fin 1024, B0 (ix2 r k) = X (ix3 ⟨i / 8192, by omega⟩ ⟨i % 8192, by omega⟩ k))
    (h1 : ∀ k : Fin 1024, B1 (ix2 0 k) = N (ix2 1 k)) (h2 : ∀ (k : Fin 1024) (j : Fin 5632), B2 (ix3 0 k j) = U (ix3 1 k j))
    (h3 : ∀ (j : Fin 2816) (e : Fin 1024), B3 (ix3 0 j e) = W (ix3 1 j e)) :
    block B0 B1 B2 B3 r e = REF X N U W (ix2 i e) := by
  pointwise [block, hidden, up, normed, Ideal.logistic, REF, UP]
  simp only [h0, h1, h2, h3]

end Reference

open Cert.Kernel2Ideal Cert.Kernel2Ideal.Gen

variable (m : (ℓ : Loc nD τ sig) → Buf (Elt Ideal) ℓ)

/-- The block indices of the windows at a grid point. -/
theorem idx : ∀ t : Fin cfg0.N, win0_0.index t = ![t.val, 0] ∧ win0_1.index t = ![0, 0] ∧ win0_2.index t = ![1, 0, 0]
    ∧ win0_3.index t = ![1, 0, 0] ∧ win0_4.index t = ![t.val, 0] :=
  (by decide +kernel : ∀ t : Fin grid0.N, _)

/-- The result array after the run. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  obtain ⟨r, e, rfl⟩ : ∃ (r : Fin 512) (e : Fin 1024), y = ix2 r e := ⟨y 0, y 1, eq_ix2 y⟩
  refine (after_apply m c t r e).trans ?_
  have hi := idx t
  have key := block_eq (m ((c : Thread nD τ).loc main_arg0)) (m ((c : Thread nD τ).loc main_arg1)) (m ((c : Thread nD τ).loc main_arg2))
    (m ((c : Thread nD τ).loc main_arg3)) (iblk m c 0 t) (iblk m c 1 t) (iblk m c 2 t) (iblk m c 3 t) r
    ⟨512 * t + r, by have ht : t.val < 32 := t.isLt; omega⟩ e
    (fun k => by blk_ext! [iblk, V, idx t]) (fun k => by blk_ext! [iblk, V, idx t]) (fun k j => by blk_ext! [iblk, V, idx t])
    (fun j e => by blk_ext! [iblk, V, idx t])
  refine key.trans (congrArg _ ?_)
  blk_ext [idx t]

end Cert.Kernel2Ideal.Ffn
-- ==== Proof.Merge.Block.lean ====
/-
  The gated merge, one block of 512 rows at a time: what the body computes from its input blocks and from the token-major
  copies of mixer A's groups, as plain sums over the rows of its operands.
-/
module

public import proofs.«01_k».proof.Proof.Gen.Kernel3Ideal.Skeleton
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.Kernel3Ideal.Merge

open Cert.Kernel3Ideal Cert.Kernel3Ideal.Gen

variable (X : FVec Ideal S512x1024 .f32) (G : FVec Ideal S1x1024 .f32) (A0 A1 A2 E0 E1 E2 : FVec Ideal S512x256 .f32)
  (OB OC : FVec Ideal S512x512 .bf16) (W0 W1 W2 W3 W4 W5 : FVec Ideal S1x1024x512 .f32) (PA : FVec Ideal S1x256x1024 .f32)
  (PB PC : FVec Ideal S1x512x1024 .f32) (WO : FVec Ideal S1x1024x1024 .f32)

/-- A normalised row: the row over the root of its mean square, times the gain. -/
def normed (r : Fin 512) (k : Fin 1024) : EReal :=
  X (ix2 r k) * Ideal.rsqrt (Ideal.div (∑ d : Fin 1024, X (ix2 r d) * X (ix2 r d)) (Ideal.ofBits FTy.f32 1149239296#32) +
    Ideal.ofBits FTy.f32 897988541#32) * G (ix2 0 k)

/-- A gate: the sigmoid of the normalised row times a column of the gate's block `W` of the projection. -/
def gate (W : FVec Ideal S1x1024x512 .f32) (r : Fin 512) (j : Fin 512) : EReal :=
  Ideal.logistic (∑ k : Fin 1024, normed X G r k * W (ix3 0 k j))

/-- A branch: a mixer's row times a column of the branch's projection. -/
def branch (O : FVec Ideal S512x512 .bf16) (P : FVec Ideal S1x512x1024 .f32) (r : Fin 512) (e : Fin 1024) : EReal :=
  ∑ k : Fin 512, O (ix2 r k) * P (ix3 0 k e)

/-- The greatest of the three groups' logarithms. -/
def top (r : Fin 512) (k : Fin 256) : EReal := max (max (E0 (ix2 r k)) (E1 (ix2 r k))) (E2 (ix2 r k))

/-- The groups of mixer A, weighted by their denominators. -/
def mix (r : Fin 512) (k : Fin 256) : EReal :=
  Ideal.div (Ideal.exp2 (E0 (ix2 r k) - top E0 E1 E2 r k) * A0 (ix2 r k) + Ideal.exp2 (E1 (ix2 r k) - top E0 E1 E2 r k) * A1 (ix2 r k)
      + Ideal.exp2 (E2 (ix2 r k) - top E0 E1 E2 r k) * A2 (ix2 r k))
    (Ideal.exp2 (E0 (ix2 r k) - top E0 E1 E2 r k) + Ideal.exp2 (E1 (ix2 r k) - top E0 E1 E2 r k)
      + Ideal.exp2 (E2 (ix2 r k) - top E0 E1 E2 r k))

/-- The branch of mixer A. -/
def branchA (r : Fin 512) (e : Fin 1024) : EReal := ∑ k : Fin 256, mix A0 A1 A2 E0 E1 E2 r k * PA (ix3 0 k e)

/-- Column `j` of the gated sum of the branches in the half of columns whose gates are `Wa`, `Wb`, `Wc`; `e` is the column of
    the whole row. -/
def gated (Wa Wb Wc : FVec Ideal S1x1024x512 .f32) (r : Fin 512) (j : Fin 512) (e : Fin 1024) : EReal :=
  gate X G Wb r j * branch OB PB r e + gate X G Wc r j * branch OC PC r e
    + gate X G Wa r j * branchA A0 A1 A2 E0 E1 E2 PA r e

/-- A row of the result: the residual row plus the merged row times the output projection, half by half. -/
def block (r : Fin 512) (e : Fin 1024) : EReal :=
  X (ix2 r e) + (∑ j : Fin 512, gated X G A0 A1 A2 E0 E1 E2 OB OC PA PB PC W0 W2 W4 r j ⟨j, by omega⟩ * WO (ix3 0 ⟨j, by omega⟩ e)
    + ∑ j : Fin 512, gated X G A0 A1 A2 E0 E1 E2 OB OC PA PB PC W1 W3 W5 r j ⟨512 + j, by omega⟩ * WO (ix3 0 ⟨512 + j, by omega⟩ e))

/-- The body normalises its rows as `normed` says. -/
theorem pay3_apply (r : Fin 512) (k : Fin 1024) : k0_pay3 (F := Ideal) X G (ix2 r k) = normed X G r k := by
  pointwise [k0_pay3, k0_pay2, normed]

/-- The gates of the body. -/
theorem gates_apply (W : FVec Ideal S1x1024x512 .f32) (r : Fin 512) (j : Fin 512) :
    k0_pay6 (F := Ideal) X G W (ix2 r j) = gate X G W r j ∧ k0_pay7 (F := Ideal) (k0_pay3 X G) W (ix2 r j) = gate X G W r j
      ∧ k0_pay8 (F := Ideal) (k0_pay3 X G) W (ix2 r j) = gate X G W r j ∧ k0_pay9 (F := Ideal) (k0_pay3 X G) W (ix2 r j) = gate X G W r j
      ∧ k0_pay10 (F := Ideal) (k0_pay3 X G) W (ix2 r j) = gate X G W r j ∧ k0_pay11 (F := Ideal) (k0_pay3 X G) W (ix2 r j) = gate X G W r j := by
  have h : k0_pay7 (F := Ideal) (k0_pay3 X G) W (ix2 r j) = gate X G W r j := by
    pointwise [k0_pay7, gate]
    simp only [pay3_apply]
  exact ⟨h, h, h, h, h, h⟩

/-- The branches of mixers B and C. -/
theorem branch_apply (O : FVec Ideal S512x512 .bf16) (P : FVec Ideal S1x512x1024 .f32) (r : Fin 512) (e : Fin 1024) :
    k0_pay4 (F := Ideal) O P (ix2 r e) = branch O P r e ∧ k0_pay5 (F := Ideal) O P (ix2 r e) = branch O P r e := by
  have h : k0_pay4 (F := Ideal) O P (ix2 r e) = branch O P r e := by
    pointwise [k0_pay4, branch]
  exact ⟨h, h⟩

/-- The logarithms to base two, as the body takes them. -/
def scaled (E : FVec Ideal S512x256 .f32) : FVec Ideal S512x256 .f32 :=
  mulf E (broadcast S512x256 (Named.named (F := Ideal) κ "log2_e" 0x3FB8AA3B#32))

/-- The greatest logarithm as the body takes it. -/
def topVec : FVec Ideal S512x256 .f32 := maximumf (maximumf E0 E1) E2

/-- The weight of a group, up to their sum. -/
def weightVec (E : FVec Ideal S512x256 .f32) : FVec Ideal S512x256 .f32 := exp2 (subf E (topVec E0 E1 E2))

/-- The groups mixed, as the body does. -/
def mixVec : FVec Ideal S512x256 .f32 :=
  divf (addf (addf (mulf (weightVec E0 E1 E2 E0) A0) (mulf (weightVec E0 E1 E2 E1) A1)) (mulf (weightVec E0 E1 E2 E2) A2))
    (addf (addf (weightVec E0 E1 E2 E0) (weightVec E0 E1 E2 E1)) (weightVec E0 E1 E2 E2))

/-- The branch of mixer A as the body takes it. -/
def branchAVec : FVec Ideal S512x1024 .f32 :=
  matmul dot_S512x256_S256x1024_S512x1024_1_0_0_1_n_n none (truncf .bf16 (mixVec A0 A1 A2 E0 E1 E2) bitsLt_bf16_f32)
    (truncf .bf16 (shapeCast S256x1024 PA shapeCasts_S1x256x1024_S256x1024) bitsLt_bf16_f32) (constant S512x1024 .f32 0x00000000#32)

theorem branchA_apply (r : Fin 512) (e : Fin 1024) :
    branchAVec A0 A1 A2 E0 E1 E2 PA (ix2 r e) = branchA A0 A1 A2 E0 E1 E2 PA r e := by
  pointwise [branchAVec, mixVec, weightVec, topVec, branchA, mix, top]
  try rfl

/-- The first half of the merged columns, from gates and branches. -/
def firstVec (B C A : FVec Ideal S512x1024 .f32) (gb gc ga : FVec Ideal S512x512 .f32) : FVec Ideal S512x512 .bf16 :=
  truncf .bf16 (addf (addf (addf (broadcast S512x512 (Scalar.ofBits (F := Ideal) .f32 0x00000000#32)) (mulf gb (extractStridedSlice S512x512 ![0, 0] B slices_S512x1024_o0_0_S512x512)))
    (mulf gc (extractStridedSlice S512x512 ![0, 0] C slices_S512x1024_o0_0_S512x512))) (mulf ga (extractStridedSlice S512x512 ![0, 0] A slices_S512x1024_o0_0_S512x512))) bitsLt_bf16_f32

/-- The second half. -/
def secondVec (B C A : FVec Ideal S512x1024 .f32) (gb gc ga : FVec Ideal S512x512 .f32) : FVec Ideal S512x512 .bf16 :=
  truncf .bf16 (addf (addf (addf (broadcast S512x512 (Scalar.ofBits (F := Ideal) .f32 0x00000000#32)) (mulf gb (extractStridedSlice S512x512 ![0, 512] B slices_S512x1024_o0_512_S512x512)))
    (mulf gc (extractStridedSlice S512x512 ![0, 512] C slices_S512x1024_o0_512_S512x512))) (mulf ga (extractStridedSlice S512x512 ![0, 512] A slices_S512x1024_o0_512_S512x512))) bitsLt_bf16_f32

theorem first_half (B C A : FVec Ideal S512x1024 .f32) (gb gc ga : FVec Ideal S512x512 .f32) (r j : Fin 512) :
    firstVec B C A gb gc ga (ix2 r j) = gb (ix2 r j) * B (ix2 r ⟨j, by omega⟩) + gc (ix2 r j) * C (ix2 r ⟨j, by omega⟩)
      + ga (ix2 r j) * A (ix2 r ⟨j, by omega⟩) := by
  pointwise [firstVec]

theorem second_half (B C A : FVec Ideal S512x1024 .f32) (gb gc ga : FVec Ideal S512x512 .f32) (r j : Fin 512) :
    secondVec B C A gb gc ga (ix2 r j) = gb (ix2 r j) * B (ix2 r ⟨512 + j, by omega⟩) + gc (ix2 r j) * C (ix2 r ⟨512 + j, by omega⟩)
      + ga (ix2 r j) * A (ix2 r ⟨512 + j, by omega⟩) := by
  pointwise [secondVec]

/-- The output projection onto the residual, half by half. -/
theorem out_apply (P Q : FVec Ideal S512x512 .bf16) (r : Fin 512) (e : Fin 1024) :
    k0_pay1 (k0_pay2 X) (concatenate S512x1024 1 [⟨S512x512, P⟩, ⟨S512x512, Q⟩] concatenates_S512x512_S512x512_S512x1024_d1) (k0_pay110 WO) (ix2 r e)
      = X (ix2 r e) + (∑ j : Fin 512, P (ix2 r j) * WO (ix3 0 ⟨j, by omega⟩ e)
        + ∑ j : Fin 512, Q (ix2 r j) * WO (ix3 0 ⟨512 + j, by omega⟩ e)) := by
  pointwise [k0_pay1, k0_pay2, k0_pay110]

/-- What the body stores, from the token-major groups and their logarithms to base two. -/
def body : FVec Ideal S512x1024 .f32 :=
  k0_pay1 (k0_pay2 X) (concatenate S512x1024 1
    [⟨S512x512, firstVec (k0_pay4 OB PB) (k0_pay5 OC PC) (branchAVec A0 A1 A2 E0 E1 E2 PA) (k0_pay6 X G W2) (k0_pay8 (k0_pay3 X G) W4) (k0_pay10 (k0_pay3 X G) W0)⟩,
      ⟨S512x512, secondVec (k0_pay4 OB PB) (k0_pay5 OC PC) (branchAVec A0 A1 A2 E0 E1 E2 PA) (k0_pay7 (k0_pay3 X G) W3) (k0_pay9 (k0_pay3 X G) W5) (k0_pay11 (k0_pay3 X G) W1)⟩]
    concatenates_S512x512_S512x512_S512x1024_d1) (k0_pay110 WO)

/-- The stored block at an index. -/
theorem body_apply (r : Fin 512) (e : Fin 1024) :
    body X G A0 A1 A2 E0 E1 E2 OB OC W0 W1 W2 W3 W4 W5 PA PB PC WO (ix2 r e)
      = block X G A0 A1 A2 E0 E1 E2 OB OC W0 W1 W2 W3 W4 W5 PA PB PC WO r e := by
  unfold body block gated
  rw [out_apply]
  simp only [first_half, second_half, branchA_apply, (branch_apply _ _ _ _).1, (branch_apply _ _ _ _).2, (gates_apply _ _ _ _ _).1,
    (gates_apply _ _ _ _ _).2.1, (gates_apply _ _ _ _ _).2.2.1, (gates_apply _ _ _ _ _).2.2.2.1, (gates_apply _ _ _ _ _).2.2.2.2.1,
    (gates_apply _ _ _ _ _).2.2.2.2.2]

end Cert.Kernel3Ideal.Merge

end
-- ==== Proof.Merge.Tokens.lean ====
/-
  The gated merge: mixer A's groups 1 and 2 arrive residue class by residue class of their dilation; the body stores each class
  at the class's stride and reads the copy back token by token.
-/
module

public import proofs.«01_k».proof.Proof.Merge.Block

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Merge

open Cert.Kernel3Ideal Cert.Kernel3Ideal.Gen

/-- The left half of the columns of a copy, as it is read back. -/
abbrev left (v : View sig .tc .vmem S2x512x128 .f32) (L : List (View.Piece (Elt Ideal) S2x512x128 .f32)) : FVec Ideal S1x512x128 .f32 :=
  View.readCov (Val := Elt Ideal) v L (Rect.unit (s := S2x512x128) ![0, 0, 0] ![1, 512, 128] inb_S2x512x128_S1x512x128_0_0_0).toLoadRect

/-- The right half. -/
abbrev right (v : View sig .tc .vmem S2x512x128 .f32) (L : List (View.Piece (Elt Ideal) S2x512x128 .f32)) : FVec Ideal S1x512x128 .f32 :=
  View.readCov (Val := Elt Ideal) v L (Rect.unit (s := S2x512x128) ![1, 0, 0] ![1, 512, 128] inb_S2x512x128_S1x512x128_1_0_0).toLoadRect

/-- A copy read back, its halves side by side. -/
def readBack (v : View sig .tc .vmem S2x512x128 .f32) (L : List (View.Piece (Elt Ideal) S2x512x128 .f32)) : FVec Ideal S512x256 .f32 :=
  k0_pay23 (left v L) (right v L)

/-- The copy read back, from what its stores leave at every index. -/
theorem readBack_eq (v : View sig .tc .vmem S2x512x128 .f32) (L : List (View.Piece (Elt Ideal) S2x512x128 .f32))
    (T : FVec Ideal S512x256 .f32)
    (hL : ∀ (j : Fin 2) (n : Fin 512) (l : Fin 128), View.canon L (ix3 j n l) = T (ix2 n ⟨128 * j + l, by omega⟩)) :
    readBack v L = T := by
  unfold readBack left right
  rw [View.readCov_eq_canon', View.readCov_eq_canon']
  generalize View.canon L = Y at hL
  funext y
  obtain ⟨n, k, rfl⟩ : ∃ (n : Fin 512) (k : Fin 256), y = ix2 n k := ⟨y 0, y 1, eq_ix2 y⟩
  have key : ∀ (k : Fin 256) (h : (k : ℕ) < 128), Y (ix3 0 n ⟨k, h⟩) = T (ix2 n k) := fun k h => by
    refine (hL 0 n ⟨k, h⟩).trans (congrArg T ?_); idx_ext
  have key' : ∀ (k : Fin 256) (h : (k : ℕ) - 128 < 128) (h' : ¬ (k : ℕ) < 128), Y (ix3 1 n ⟨(k : ℕ) - 128, h⟩) = T (ix2 n k) := fun k h h' => by
    refine (hL 1 n ⟨(k : ℕ) - 128, h⟩).trans (congrArg T ?_); idx_ext
  pointwise [k0_pay23]
  by_cases h : (k : ℕ) < 128
  · rw [dif_pos h]; exact key k h
  · rw [dif_neg h]; exact key' k (by omega) h

section Copy

/-- Column half of the `k`-th store of a copy of `q` classes, counted from the last. -/
def half (q : ℕ) (k : Fin (2 * q)) : Fin 2 := ⟨(2 * q - 1 - k) % 2, by omega⟩

/-- Residue class of the `k`-th store. -/
def cls (q : ℕ) (k : Fin (2 * q)) : Fin q := ⟨(2 * q - 1 - k) / 2, by omega⟩

variable (q N : ℕ) (hq : q * N = 512)

/-- The rows of residue class `r` in half `j` of the columns, in the copy. -/
def classRect (j : Fin 2) (r : Fin q) : Rect S2x512x128 where
  off := ![j, r, 0]
  size := ![1, N, 128]
  stride := ![1, q, 1]
  inb a := by
    match a with
    | ⟨0, _⟩ => exact Or.inr (show (j : ℕ) + 1 * 0 < 2 by omega)
    | ⟨1, _⟩ =>
      rcases Nat.eq_zero_or_pos N with h | h
      · exact Or.inl h
      · refine Or.inr (show (r : ℕ) + q * (N - 1) < 512 from ?_)
        have h1 : q * (N - 1) + q = q * N := by rw [Nat.mul_sub, Nat.mul_one]; exact Nat.sub_add_cancel (Nat.le_mul_of_pos_right q h)
        have := r.isLt
        omega
    | ⟨2, _⟩ => exact Or.inr (show 0 + 1 * 127 < 128 by omega)
  stride_pos a := by
    match a with
    | ⟨0, _⟩ => exact Nat.one_pos
    | ⟨1, _⟩ => exact Nat.lt_of_le_of_lt (Nat.zero_le _) r.isLt
    | ⟨2, _⟩ => exact Nat.one_pos

/-- The stores of a copy, the last first. -/
def stores (w : Fin (2 * q) → (⟨3, ![1, N, 128]⟩ : Shape).Idx → EReal) : List (View.Piece (Elt Ideal) S2x512x128 .f32) :=
  List.ofFn fun k => ⟨classRect q N hq (half q k) (cls q k), w k⟩

/-- When every store holds its class's tokens of `T`, the copy holds `T`. -/
theorem canon_stores (T : FVec Ideal S512x256 .f32) (w : Fin (2 * q) → (⟨3, ![1, N, 128]⟩ : Shape).Idx → EReal)
    (hw : ∀ k x (n : Fin 512) (c : Fin 256), (n : ℕ) = cls q k + q * (x 1 : ℕ) → (c : ℕ) = 128 * half q k + (x 2 : ℕ) → w k x = T (ix2 n c))
    (j : Fin 2) (n : Fin 512) (l : Fin 128) :
    View.canon (stores q N hq w) (ix3 j n l) = T (ix2 n ⟨128 * j + l, by omega⟩) := by
  have hq0 : 0 < q := by rcases Nat.eq_zero_or_pos q with h | h; · subst h; omega
                         · exact h
  refine View.canon_apply_of_pieces (fun y : S2x512x128.Idx => T (ix2 (y 1) ⟨128 * (y 0 : ℕ) + (y 2 : ℕ), by
    have h0 : (y 0 : ℕ) < 2 := (y 0).isLt
    have h2 : (y 2 : ℕ) < 128 := (y 2).isLt
    omega⟩)) (stores q N hq w) ?_ (ix3 j n l) ?_
  · intro p hp x
    obtain ⟨k, rfl⟩ := List.mem_ofFn.mp hp
    have h0 : (x 0 : ℕ) < 1 := (x 0).isLt
    refine hw k x _ _ ?_ ?_
    · rfl
    · show 128 * ((half q k : ℕ) + 1 * (x 0 : ℕ)) + (0 + 1 * (x 2 : ℕ)) = _
      omega
  · have hr : (n : ℕ) % q < q := Nat.mod_lt _ hq0
    have hk : 2 * q - 1 - (2 * ((n : ℕ) % q) + j) < 2 * q := by omega
    refine ⟨_, List.mem_ofFn.mpr ⟨⟨2 * q - 1 - (2 * ((n : ℕ) % q) + j), hk⟩, rfl⟩, ?_⟩
    rw [LoadRect.mem_set]
    intro a
    have hN : (n : ℕ) / q < N := Nat.div_lt_of_lt_mul (by rw [hq]; exact n.isLt)
    match a with
    | ⟨0, _⟩ => exact ⟨0, Nat.one_pos, show (j : ℕ) = (2 * q - 1 - (2 * q - 1 - (2 * ((n : ℕ) % q) + j))) % 2 + 1 * 0 by omega⟩
    | ⟨1, _⟩ =>
      refine ⟨(n : ℕ) / q, hN, show (n : ℕ) = (2 * q - 1 - (2 * q - 1 - (2 * ((n : ℕ) % q) + j))) / 2 + q * ((n : ℕ) / q) from ?_⟩
      have e : (2 * q - 1 - (2 * q - 1 - (2 * ((n : ℕ) % q) + j))) / 2 = (n : ℕ) % q := by omega
      rw [e, Nat.mod_add_div]
    | ⟨2, _⟩ => exact ⟨(l : ℕ), l.isLt, show (l : ℕ) = 0 + 1 * (l : ℕ) by omega⟩

/-- A list of stores that is the copy's. -/
theorem canon_of_stores (T : FVec Ideal S512x256 .f32) (w : Fin (2 * q) → (⟨3, ![1, N, 128]⟩ : Shape).Idx → EReal)
    (hw : ∀ k x (n : Fin 512) (c : Fin 256), (n : ℕ) = cls q k + q * (x 1 : ℕ) → (c : ℕ) = 128 * half q k + (x 2 : ℕ) → w k x = T (ix2 n c))
    (L : List (View.Piece (Elt Ideal) S2x512x128 .f32)) (hL : L = stores q N hq w) (j : Fin 2) (n : Fin 512) (l : Fin 128) :
    View.canon L (ix3 j n l) = T (ix2 n ⟨128 * j + l, by omega⟩) := by
  rw [hL]
  exact canon_stores q N hq T w hw j n l

end Copy

/-- Group 1, token by token: token `n` of the block is in class `n % 4`. -/
def tokens4 (A : FVec Ideal S1x4x128x256 .f32) : FVec Ideal S512x256 .f32 :=
  fun y => A (ix4 0 ⟨(y 0 : ℕ) % 4, by omega⟩ ⟨(y 0 : ℕ) / 4, by have := (y 0).isLt; show _ < 128; change _ < 512 at this; omega⟩ (y 1))

/-- Group 2, token by token: token `n` of the block is in class `n % 16`. -/
def tokens16 (A : FVec Ideal S1x16x32x256 .f32) : FVec Ideal S512x256 .f32 :=
  fun y => A (ix4 0 ⟨(y 0 : ℕ) % 16, by omega⟩ ⟨(y 0 : ℕ) / 16, by have := (y 0).isLt; show _ < 32; change _ < 512 at this; omega⟩ (y 1))

/-- The half class of the block that the `k`-th store copies. -/
def rect4 (k : Fin (2 * 4)) : Rect S1x4x128x256 := Rect.unit ![0, cls 4 k, 0, 128 * half 4 k] ![1, 1, 128, 128] (by revert k; decide)

/-- The `k`-th store of group 1's copy: half a class of the block. -/
def store4 (A : FVec Ideal S1x4x128x256 .f32) (k : Fin (2 * 4)) : FVec Ideal S1x128x128 .f32 :=
  k0_pay16 (View.ld (Val := Elt Ideal) (e' := .f32) A (rect4 k))

/-- The half class of the block that the `k`-th store copies. -/
def rect16 (k : Fin (2 * 16)) : Rect S1x16x32x256 := Rect.unit ![0, cls 16 k, 0, 128 * half 16 k] ![1, 1, 32, 128] (by revert k; decide)

/-- The `k`-th store of group 2's copy. -/
def store16 (A : FVec Ideal S1x16x32x256 .f32) (k : Fin (2 * 16)) : FVec Ideal S1x32x128 .f32 :=
  k0_pay100 (View.ld (Val := Elt Ideal) (e' := .f32) A (rect16 k))

theorem store4_apply (A : FVec Ideal S1x4x128x256 .f32) (k : Fin (2 * 4)) (x : S1x128x128.Idx) (n : Fin 512) (c : Fin 256)
    (hn : (n : ℕ) = cls 4 k + 4 * (x 1 : ℕ)) (hc : (c : ℕ) = 128 * half 4 k + (x 2 : ℕ)) : store4 A k x = tokens4 A (ix2 n c) := by
  idx_vars x
  have h1 := (cls 4 k).isLt
  have e : store4 A k (ix3 x0 x1 x2) = View.ld (Val := Elt Ideal) (e' := .f32) A (rect4 k) (ix4 0 0 x1 x2) := by
    unfold store4
    generalize View.ld (Val := Elt Ideal) (e' := .f32) A (rect4 k) = V
    pointwise [k0_pay16]
  rw [e]
  refine congrArg A (funext fun a => Fin.ext ?_)
  change (n : ℕ) = _ + 4 * (x1 : ℕ) at hn
  change (c : ℕ) = _ + (x2 : ℕ) at hc
  match a with
  | ⟨0, _⟩ => rfl
  | ⟨1, _⟩ => show (cls 4 k : ℕ) + 1 * 0 = (n : ℕ) % 4; omega
  | ⟨2, _⟩ => show 0 + 1 * (x1 : ℕ) = (n : ℕ) / 4; omega
  | ⟨3, _⟩ => show 128 * (half 4 k : ℕ) + 1 * (x2 : ℕ) = (c : ℕ); omega

theorem store16_apply (A : FVec Ideal S1x16x32x256 .f32) (k : Fin (2 * 16)) (x : S1x32x128.Idx) (n : Fin 512) (c : Fin 256)
    (hn : (n : ℕ) = cls 16 k + 16 * (x 1 : ℕ)) (hc : (c : ℕ) = 128 * half 16 k + (x 2 : ℕ)) : store16 A k x = tokens16 A (ix2 n c) := by
  idx_vars x
  have h1 := (cls 16 k).isLt
  have e : store16 A k (ix3 x0 x1 x2) = View.ld (Val := Elt Ideal) (e' := .f32) A (rect16 k) (ix4 0 0 x1 x2) := by
    unfold store16
    generalize View.ld (Val := Elt Ideal) (e' := .f32) A (rect16 k) = V
    pointwise [k0_pay100]
  rw [e]
  refine congrArg A (funext fun a => Fin.ext ?_)
  change (n : ℕ) = _ + 16 * (x1 : ℕ) at hn
  change (c : ℕ) = _ + (x2 : ℕ) at hc
  match a with
  | ⟨0, _⟩ => rfl
  | ⟨1, _⟩ => show (cls 16 k : ℕ) + 1 * 0 = (n : ℕ) % 16; omega
  | ⟨2, _⟩ => show 0 + 1 * (x1 : ℕ) = (n : ℕ) / 16; omega
  | ⟨3, _⟩ => show 128 * (half 16 k : ℕ) + 1 * (x2 : ℕ) = (c : ℕ); omega

/-- The stores of group 1's copy leave its tokens. -/
theorem copy4 (A A' : FVec Ideal S1x4x128x256 .f32) (h : A' = A) (L : List (View.Piece (Elt Ideal) S2x512x128 .f32))
    (hL : L = stores 4 128 rfl (store4 A')) (j : Fin 2) (n : Fin 512) (l : Fin 128) :
    View.canon L (ix3 j n l) = tokens4 A (ix2 n ⟨128 * j + l, by omega⟩) := by
  subst h
  exact canon_of_stores 4 128 rfl _ _ (store4_apply A') L hL j n l

/-- The stores of group 2's copy leave its tokens. -/
theorem copy16 (A A' : FVec Ideal S1x16x32x256 .f32) (h : A' = A) (L : List (View.Piece (Elt Ideal) S2x512x128 .f32))
    (hL : L = stores 16 32 rfl (store16 A')) (j : Fin 2) (n : Fin 512) (l : Fin 128) :
    View.canon L (ix3 j n l) = tokens16 A (ix2 n ⟨128 * j + l, by omega⟩) := by
  subst h
  exact canon_of_stores 16 32 rfl _ _ (store16_apply A') L hL j n l

/-- The body's result from its stored copies: of the groups `A1`, `A2` and of their logarithms `E1`, `E2`. -/
theorem body_of_stored (X : FVec Ideal S512x1024 .f32) (G : FVec Ideal S1x1024 .f32) (A0 E0 : FVec Ideal S512x256 .f32)
    (A1 E1 : FVec Ideal S1x4x128x256 .f32) (A2 E2 : FVec Ideal S1x16x32x256 .f32)
    (OB OC : FVec Ideal S512x512 .bf16) (W0 W1 W2 W3 W4 W5 : FVec Ideal S1x1024x512 .f32) (PA : FVec Ideal S1x256x1024 .f32)
    (PB PC : FVec Ideal S1x512x1024 .f32) (WO : FVec Ideal S1x1024x1024 .f32)
    (v0 v1 v2 v3 : View sig .tc .vmem S2x512x128 .f32) (L0 L1 L2 L3 : List (View.Piece (Elt Ideal) S2x512x128 .f32))
    (h0 : ∀ (j : Fin 2) (n : Fin 512) (l : Fin 128), View.canon L0 (ix3 j n l) = tokens4 A1 (ix2 n ⟨128 * j + l, by omega⟩))
    (h1 : ∀ (j : Fin 2) (n : Fin 512) (l : Fin 128), View.canon L1 (ix3 j n l) = tokens4 E1 (ix2 n ⟨128 * j + l, by omega⟩))
    (h2 : ∀ (j : Fin 2) (n : Fin 512) (l : Fin 128), View.canon L2 (ix3 j n l) = tokens16 A2 (ix2 n ⟨128 * j + l, by omega⟩))
    (h3 : ∀ (j : Fin 2) (n : Fin 512) (l : Fin 128), View.canon L3 (ix3 j n l) = tokens16 E2 (ix2 n ⟨128 * j + l, by omega⟩))
    (r : Fin 512) (e : Fin 1024) :
    k0_pay1 (F := Ideal) (k0_pay2 X) (k0_pay109 (k0_pay4 OB PB) (k0_pay5 OC PC) (k0_pay6 X G W2) (k0_pay7 (k0_pay3 X G) W3) (k0_pay8 (k0_pay3 X G) W4)
        (k0_pay9 (k0_pay3 X G) W5) (k0_pay10 (k0_pay3 X G) W0) (k0_pay11 (k0_pay3 X G) W1) (k0_pay12 A0) (k0_pay13 E0)
        (k0_pay23 (left v0 L0) (right v0 L0)) (k0_pay34 (left v1 L1) (right v1 L1)) (k0_pay71 (left v2 L2) (right v2 L2))
        (k0_pay107 (left v3 L3)) (k0_pay108 (right v3 L3)) PA) (k0_pay110 WO) (ix2 r e)
      = block X G A0 (tokens4 A1) (tokens16 A2) (scaled E0) (scaled (tokens4 E1)) (scaled (tokens16 E2)) OB OC W0 W1 W2 W3 W4 W5 PA PB PC WO r e := by
  rw [← body_apply, ← readBack_eq v0 L0 _ h0, ← readBack_eq v1 L1 _ h1, ← readBack_eq v2 L2 _ h2, ← readBack_eq v3 L3 _ h3]
  have e0 : k0_pay12 A0 = A0 := by funext y; idx_vars y; pointwise [k0_pay12]
  have e1 : k0_pay13 (F := Ideal) E0 = scaled E0 := by
    have e2 : shapeCast S512x256 E0 shapeCasts_S512x256_S512x256 = E0 := by funext y; idx_vars y; pointwise
    unfold k0_pay13 scaled
    rw [e2]
  rw [e0, e1]
  rfl

end Cert.Kernel3Ideal.Merge

end
-- ==== Proof.Merge.After.lean ====
/-
  What the merge leaves in its output block at a grid point, from the blocks that it is given.
-/
module

public import proofs.«01_k».proof.Proof.Merge.Tokens
public import proofs.«01_k».proof.Proof.Gen.Kernel3Ideal.Value

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Merge

open Cert.Kernel3Ideal Cert.Kernel3Ideal.Gen

variable (m : (ℓ : Loc nD τ sig) → Buf (Elt Ideal) ℓ)

set_option maxHeartbeats 4000000 in
/-- What the body leaves in the output block at a grid point. -/
theorem after_apply (c : Dev nD) (t : Fin cfg0.N) (r : Fin 512) (e : Fin 1024) :
    (dats m 0 c).after 20 t (ix2 r e) = block (iblk m c 0 t) (iblk m c 1 t) (iblk m c 2 t) (tokens4 (iblk m c 3 t)) (tokens16 (iblk m c 4 t))
      (scaled (iblk m c 5 t)) (scaled (tokens4 (iblk m c 6 t))) (scaled (tokens16 (iblk m c 7 t))) (iblk m c 8 t) (iblk m c 9 t) (iblk m c 10 t) (iblk m c 11 t)
      (iblk m c 12 t) (iblk m c 13 t) (iblk m c 14 t) (iblk m c 15 t) (iblk m c 16 t) (iblk m c 17 t) (iblk m c 18 t) (iblk m c 19 t) r e := by
  rw [after0_20, outsAt0]
  frame_out
  refine body_of_stored (iblk m c 0 t) (iblk m c 1 t) (iblk m c 2 t) (iblk m c 5 t) (iblk m c 3 t) (iblk m c 6 t) (iblk m c 4 t) (iblk m c 7 t)
    (iblk m c 8 t) (iblk m c 9 t) (iblk m c 10 t) (iblk m c 11 t) (iblk m c 12 t) (iblk m c 13 t) (iblk m c 14 t) (iblk m c 15 t) (iblk m c 16 t)
    (iblk m c 17 t) (iblk m c 18 t) (iblk m c 19 t) _ _ _ _ _ _ _ _ (fun j n l => ?_) (fun j n l => ?_) (fun j n l => ?_) (fun j n l => ?_) r e
  · generalize iblk m c 3 t = A
    refine copy4 A A rfl _ ?_ j n l
    unfold stores
    simp only [List.ofFn_succ, List.ofFn_zero]
    repeat refine congrArg₂ List.cons ?_ ?_
    all_goals rfl
  · generalize iblk m c 6 t = A
    refine copy4 A A rfl _ ?_ j n l
    unfold stores
    simp only [List.ofFn_succ, List.ofFn_zero]
    repeat refine congrArg₂ List.cons ?_ ?_
    all_goals rfl
  · generalize iblk m c 4 t = A
    refine copy16 A A rfl _ ?_ j n l
    unfold stores
    simp only [List.ofFn_succ, List.ofFn_zero]
    repeat refine congrArg₂ List.cons ?_ ?_
    all_goals rfl
  · generalize iblk m c 7 t = A
    refine copy16 A A rfl _ ?_ j n l
    unfold stores
    simp only [List.ofFn_succ, List.ofFn_zero]
    repeat refine congrArg₂ List.cons ?_ ?_
    all_goals rfl

end Cert.Kernel3Ideal.Merge

end
-- ==== Proof.Merge.Entry.lean ====
/-
  What the merge is launched with: the arrays that its windows read, as terms over the arguments.
-/
module

public import proofs.«01_k».proof.Proof.Gen.Kernel3Ideal.Frame.Runs
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel3Ideal.Merge

open Cert.Kernel3Ideal Cert.Kernel3Ideal.Gen
open Idealize.ShloMosaic Idealize.ShloMosaic.TcCoe Idealize.ShloMosaic.Tactic
open scoped BigOperators

variable (m : (ℓ : Loc nD τ sig) → Buf (Elt Ideal) ℓ) (c : Dev nD)

/-- The residual rows. -/
theorem V_rows (i : Fin 16384) (k : Fin 1024) : V m c main_v36 (ix2 i k)
    = m ((c : Thread nD τ).loc main_arg0) (ix3 ⟨i / 8192, by omega⟩ ⟨i % 8192, by omega⟩ k) := by
  unfold V
  after_reads_at

/-- The gain of the last layer. -/
theorem V_gain (k : Fin 1024) : V m c main_v39 (ix2 0 k) = m ((c : Thread nD τ).loc main_arg1) (ix2 1 k) := by
  unfold V
  after_reads_at

/-- The rows of mixers B and C. -/
theorem V_b (i : Fin 16384) (k : Fin 512) : V m c main_v40 (ix2 i k)
    = m ((c : Thread nD τ).loc main_arg4) (ix3 ⟨i / 8192, by omega⟩ ⟨i % 8192, by omega⟩ k) := by
  unfold V
  after_reads_at

theorem V_c (i : Fin 16384) (k : Fin 512) : V m c main_v41 (ix2 i k)
    = m ((c : Thread nD τ).loc main_arg5) (ix3 ⟨i / 8192, by omega⟩ ⟨i % 8192, by omega⟩ k) := by
  unfold V
  after_reads_at

/-! ### The groups of mixer A -/

/-- What the first `n` operations leave, and the others after them. -/
theorem after_split (ops : List (HloOp τ sig (Elt Ideal))) (U : Valuation τ sig (Elt Ideal)) (n : ℕ) :
    StableHlo.after ops U = StableHlo.after (ops.drop n) (StableHlo.upto ops U n) := by
  unfold StableHlo.upto
  induction n generalizing ops U with
  | zero => rfl
  | succ n ih =>
    match ops with
    | [] => rfl
    | op :: ops => exact ih ops _

/-- The first group, position by position. -/
theorem V_group0 (i : Fin 16384) (k : Fin 256) : V m c main_v42 (ix2 i k)
    = m ((c : Thread nD τ).loc main_arg2) (ix5 ⟨i / 8192, by omega⟩ ⟨i % 8192, by omega⟩ 0 ⟨k / 64, by omega⟩ ⟨k % 64, by omega⟩) := by
  have h : ∀ (b : Fin 2) (n : Fin 8192), StableHlo.upto hostOps0 (fun b => m (c, b)) 7 main_v6 (ix3 b n k)
      = m ((c : Thread nD τ).loc main_arg2) (ix5 b n 0 ⟨k / 64, by omega⟩ ⟨k % 64, by omega⟩) := fun b n => by
    after_reads_at
  unfold V
  rw [after_split hostOps0 _ 7, ← h]
  generalize StableHlo.upto hostOps0 (fun b => m (c, b)) 7 = U
  simp only [List.drop_succ_cons, List.drop_zero]
  after_reads_at

/-- The second, sorted by the class of the position modulo four. -/
theorem V_group1 (b : Fin 2) (r : Fin 4) (p : Fin 2048) (k : Fin 256) : V m c main_v20 (ix4 b r p k)
    = m ((c : Thread nD τ).loc main_arg2) (ix5 b ⟨p * 4 + r, by omega⟩ 1 ⟨k / 64, by omega⟩ ⟨k % 64, by omega⟩) := by
  have h : ∀ (b : Fin 2) (n : Fin 8192), StableHlo.upto hostOps0 (fun b => m (c, b)) 19 main_v18 (ix3 b n k)
      = m ((c : Thread nD τ).loc main_arg2) (ix5 b n 1 ⟨k / 64, by omega⟩ ⟨k % 64, by omega⟩) := fun b n => by
    after_reads_at
  unfold V
  rw [after_split hostOps0 _ 19, ← h]
  generalize StableHlo.upto hostOps0 (fun b => m (c, b)) 19 = U
  simp only [List.drop_succ_cons, List.drop_zero]
  after_reads_at

/-- The third, sorted by the class of the position modulo sixteen. -/
theorem V_group2 (b : Fin 2) (r : Fin 16) (p : Fin 512) (k : Fin 256) : V m c main_v32 (ix4 b r p k)
    = m ((c : Thread nD τ).loc main_arg2) (ix5 b ⟨p * 16 + r, by omega⟩ 2 ⟨k / 64, by omega⟩ ⟨k % 64, by omega⟩) := by
  have h : ∀ (b : Fin 2) (n : Fin 8192), StableHlo.upto hostOps0 (fun b => m (c, b)) 31 main_v30 (ix3 b n k)
      = m ((c : Thread nD τ).loc main_arg2) (ix5 b n 2 ⟨k / 64, by omega⟩ ⟨k % 64, by omega⟩) := fun b n => by
    after_reads_at
  unfold V
  rw [after_split hostOps0 _ 31, ← h]
  generalize StableHlo.upto hostOps0 (fun b => m (c, b)) 31 = U
  simp only [List.drop_succ_cons, List.drop_zero]
  after_reads_at

/-! ### Their logarithms -/

/-- Their logarithms, repeated over the columns of a head. -/
theorem V_log0 (i : Fin 16384) (k : Fin 256) : V m c main_v43 (ix2 i k)
    = m ((c : Thread nD τ).loc main_arg3) (ix4 ⟨i / 8192, by omega⟩ ⟨i % 8192, by omega⟩ 0 ⟨k / 64, by omega⟩) := by
  unfold V
  after_reads_at

theorem V_log1 (b : Fin 2) (r : Fin 4) (p : Fin 2048) (k : Fin 256) : V m c main_v23 (ix4 b r p k)
    = m ((c : Thread nD τ).loc main_arg3) (ix4 b ⟨p * 4 + r, by omega⟩ 1 ⟨k / 64, by omega⟩) := by
  unfold V
  after_reads_at

theorem V_log2 (b : Fin 2) (r : Fin 16) (p : Fin 512) (k : Fin 256) : V m c main_v35 (ix4 b r p k)
    = m ((c : Thread nD τ).loc main_arg3) (ix4 b ⟨p * 16 + r, by omega⟩ 2 ⟨k / 64, by omega⟩) := by
  unfold V
  after_reads_at

end Cert.Kernel3Ideal.Merge

end
-- ==== Proof.Merge.Reference.lean ====
/-
  The reference of the gated merge: its expression over the arguments, step by step, and every step at an index.
-/
module

public import proofs.«01_k».proof.Proof.Gen.Reference3Ideal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.Reference3Ideal.Merge

open Cert.Reference3Ideal Cert.Reference3Ideal.Gen Idealize.ShloMosaic.StableHlo

/-- The gates' part of the projection of the normalised rows. -/
def LOGITS (X : FVec Ideal S2x8192x1024 .f32) (N : FVec Ideal S2x1024 .f32) (W : FVec Ideal S2x1024x7680 .f32) : FVec Ideal S2x8192x3072 .f32 :=
  Host.dotGeneral dot_S2x8192x1024_S1024x3072_S2x8192x3072_2_0_01_1_n_n none (mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast S1024 (extractStridedSlice S1x1024 ![1, 0] N slices_S2x1024_S1x1024_1_0) shapeCasts_S1x1024_S1024)))) (extractStridedSlice S1024x3072 ![0, 4608] (shapeCast S1024x7680 (extractStridedSlice S1x1024x7680 ![1, 0, 0] W slices_S2x1024x7680_S1x1024x7680_1_0_0) shapeCasts_S1x1024x7680_S1024x7680) slices_S1024x7680_S1024x3072_0_4608)

/-- The gates: sigmoids, branch by branch. -/
def GATES (Z : FVec Ideal S2x8192x3072 .f32) : FVec Ideal S2x8192x3x1024 .f32 :=
  Host.divf (broadcastInDim S2x8192x3x1024 ![] bcast_S_S2x8192x3x1024 (constant S_ .f32 0x3F800000#32)) (addf (broadcastInDim S2x8192x3x1024 ![] bcast_S_S2x8192x3x1024 (constant S_ .f32 0x3F800000#32)) (Host.exp (Host.negf (shapeCast S2x8192x3x1024 Z shapeCasts_S2x8192x3072_S2x8192x3x1024))))

/-- The greatest logarithm of the groups. -/
def GREATEST (E : FVec Ideal S2x8192x3x4 .f32) : FVec Ideal S2x8192x4 .f32 :=
  Host.reduce FloatOps.maximumf E (constant S_ .f32 0xFF800000#32) reducesTo_S2x8192x3x4_S2x8192x4_d2 h_S_

/-- The exponentials of the logarithms, the greatest subtracted. -/
def WEIGHTS (E : FVec Ideal S2x8192x3x4 .f32) (M : FVec Ideal S2x8192x4 .f32) : FVec Ideal S2x8192x3x4 .f32 :=
  Host.exp (subf E (broadcastInDim S2x8192x3x4 ![0, 1, 2, 3] bcast_S2x8192x1x4_S2x8192x3x4_0_1_2_3 (broadcastInDim S2x8192x1x4 ![0, 1, 3] bcast_S2x8192x4_S2x8192x1x4_0_1_3 (maximumf (broadcastInDim S2x8192x4 ![] bcast_S_S2x8192x4 (constant S_ .f32 0xFF800000#32)) M))))

/-- The exponentials over their sum. -/
def SHARES (W : FVec Ideal S2x8192x3x4 .f32) : FVec Ideal S2x8192x3x4 .f32 :=
  Host.divf W (broadcastInDim S2x8192x3x4 ![0, 1, 2, 3] bcast_S2x8192x1x4_S2x8192x3x4_0_1_2_3 (broadcastInDim S2x8192x1x4 ![0, 1, 3] bcast_S2x8192x4_S2x8192x1x4_0_1_3 (Host.reduceAdd W (constant S_ .f32 0x00000000#32) reducesTo_S2x8192x3x4_S2x8192x4_d2 h_S_)))

/-- The groups of mixer A, mixed by their shares. -/
def MIXED (P : FVec Ideal S2x8192x3x4 .f32) (O : FVec Ideal S2x8192x3x4x64 .f32) : FVec Ideal S2x8192x256 .f32 :=
  shapeCast S2x8192x256 (Host.reduceAdd (mulf (broadcastInDim S2x8192x3x4x64 ![0, 1, 2, 3, 4] bcast_S2x8192x3x4x1_S2x8192x3x4x64_0_1_2_3_4 (broadcastInDim S2x8192x3x4x1 ![0, 1, 2, 3] bcast_S2x8192x3x4_S2x8192x3x4x1_0_1_2_3 P)) O) (constant S_ .f32 0x00000000#32) reducesTo_S2x8192x3x4x64_S2x8192x4x64_d2 h_S_) shapeCasts_S2x8192x4x64_S2x8192x256

/-- The gated sum of the branches. -/
def MERGED (G : FVec Ideal S2x8192x3x1024 .f32) (A : FVec Ideal S2x8192x256 .f32) (OB OC : FVec Ideal S2x8192x512 .bf16)
    (PA : FVec Ideal S2x256x1024 .f32) (PB PC : FVec Ideal S2x512x1024 .f32) : FVec Ideal S2x8192x1024 .f32 :=
  addf (addf (mulf (shapeCast S2x8192x1024 (extractStridedSlice S2x8192x1x1024 ![0, 0, 0, 0] G slices_S2x8192x3x1024_S2x8192x1x1024_0_0_0_0) shapeCasts_S2x8192x1x1024_S2x8192x1024) (Host.dotGeneral dot_S2x8192x256_S256x1024_S2x8192x1024_2_0_01_1_n_n none A (shapeCast S256x1024 (extractStridedSlice S1x256x1024 ![1, 0, 0] PA slices_S2x256x1024_S1x256x1024_1_0_0) shapeCasts_S1x256x1024_S256x1024))) (mulf (shapeCast S2x8192x1024 (extractStridedSlice S2x8192x1x1024 ![0, 0, 1, 0] G slices_S2x8192x3x1024_S2x8192x1x1024_0_0_1_0) shapeCasts_S2x8192x1x1024_S2x8192x1024) (Host.dotGeneral dot_S2x8192x512_S512x1024_S2x8192x1024_2_0_01_1_n_n none (extf .f32 OB bitsLt_bf16_f32) (shapeCast S512x1024 (extractStridedSlice S1x512x1024 ![1, 0, 0] PB slices_S2x512x1024_S1x512x1024_1_0_0) shapeCasts_S1x512x1024_S512x1024)))) (mulf (shapeCast S2x8192x1024 (extractStridedSlice S2x8192x1x1024 ![0, 0, 2, 0] G slices_S2x8192x3x1024_S2x8192x1x1024_0_0_2_0) shapeCasts_S2x8192x1x1024_S2x8192x1024) (Host.dotGeneral dot_S2x8192x512_S512x1024_S2x8192x1024_2_0_01_1_n_n none (extf .f32 OC bitsLt_bf16_f32) (shapeCast S512x1024 (extractStridedSlice S1x512x1024 ![1, 0, 0] PC slices_S2x512x1024_S1x512x1024_1_0_0) shapeCasts_S1x512x1024_S512x1024)))

/-- The residual rows plus the projected merged rows. -/
def OUT (X D : FVec Ideal S2x8192x1024 .f32) (WO : FVec Ideal S2x1024x1024 .f32) : FVec Ideal S16384x1024 .f32 :=
  shapeCast S16384x1024 (addf X (Host.dotGeneral dot_S2x8192x1024_S1024x1024_S2x8192x1024_2_0_01_1_n_n none D (shapeCast S1024x1024 (extractStridedSlice S1x1024x1024 ![1, 0, 0] WO slices_S2x1024x1024_S1x1024x1024_1_0_0) shapeCasts_S1x1024x1024_S1024x1024))) shapeCasts_S2x8192x1024_S16384x1024

/-- The reference's expression, over its eleven arguments. -/
def REF (X : FVec Ideal S2x8192x1024 .f32) (N : FVec Ideal S2x1024 .f32) (O : FVec Ideal S2x8192x3x4x64 .f32) (E : FVec Ideal S2x8192x3x4 .f32)
    (OB OC : FVec Ideal S2x8192x512 .bf16) (W : FVec Ideal S2x1024x7680 .f32) (PA : FVec Ideal S2x256x1024 .f32)
    (PB PC : FVec Ideal S2x512x1024 .f32) (WO : FVec Ideal S2x1024x1024 .f32) : FVec Ideal S16384x1024 .f32 :=
  OUT X (MERGED (GATES (LOGITS X N W)) (MIXED (SHARES (WEIGHTS E (GREATEST E))) O) OB OC PA PB PC) WO

/-- It is what the reference's run leaves. -/
theorem res_eq (m : (ℓ : Loc nD τ sig) → Buf (Elt Ideal) ℓ) (c : Dev nD) : Cert.Reference3Ideal.Value.res_out0 (F := Ideal) m c
    = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) := rfl

/-- A normalised row. -/
def normed (X : FVec Ideal S2x8192x1024 .f32) (N : FVec Ideal S2x1024 .f32) (b : Fin 2) (n : Fin 8192) (k : Fin 1024) : EReal :=
  X (ix3 b n k) * Ideal.rsqrt (Ideal.div (∑ d : Fin 1024, X (ix3 b n d) * X (ix3 b n d)) (Ideal.ofBits FTy.f32 1149239296#32) +
    Ideal.ofBits FTy.f32 897988541#32) * N (ix2 1 k)

theorem logits_apply (X : FVec Ideal S2x8192x1024 .f32) (N : FVec Ideal S2x1024 .f32) (W : FVec Ideal S2x1024x7680 .f32)
    (b : Fin 2) (n : Fin 8192) (j : Fin 3072) :
    LOGITS X N W (ix3 b n j) = ∑ k : Fin 1024, normed X N b n k * W (ix3 1 k ⟨4608 + j, by omega⟩) := by
  pointwise [LOGITS, normed]

theorem gates_apply (Z : FVec Ideal S2x8192x3072 .f32) (b : Fin 2) (n : Fin 8192) (p : Fin 3) (j : Fin 1024) :
    GATES Z (ix4 b n p j) = Ideal.logistic (Z (ix3 b n ⟨p * 1024 + j, by omega⟩)) := by
  pointwise [GATES, Ideal.logistic]

theorem greatest_apply (E : FVec Ideal S2x8192x3x4 .f32) (b : Fin 2) (n : Fin 8192) (h : Fin 4) : GREATEST E (ix3 b n h)
    = Finset.fold max (Ideal.ofBits FTy.f32 4286578688#32) (fun g : Fin 3 => E (ix4 b n g h)) Finset.univ := by
  pointwise [GREATEST]

theorem weights_apply (E : FVec Ideal S2x8192x3x4 .f32) (M : FVec Ideal S2x8192x4 .f32) (b : Fin 2) (n : Fin 8192) (g : Fin 3) (h : Fin 4) :
    WEIGHTS E M (ix4 b n g h) = Ideal.exp (E (ix4 b n g h) - max (Ideal.ofBits FTy.f32 4286578688#32) (M (ix3 b n h))) := by
  pointwise [WEIGHTS]

theorem shares_apply (W : FVec Ideal S2x8192x3x4 .f32) (b : Fin 2) (n : Fin 8192) (g : Fin 3) (h : Fin 4) :
    SHARES W (ix4 b n g h) = Ideal.div (W (ix4 b n g h)) (∑ u : Fin 3, W (ix4 b n u h)) := by
  pointwise [SHARES]

theorem mixed_apply (P : FVec Ideal S2x8192x3x4 .f32) (O : FVec Ideal S2x8192x3x4x64 .f32) (b : Fin 2) (n : Fin 8192) (k : Fin 256) :
    MIXED P O (ix3 b n k) = ∑ g : Fin 3, P (ix4 b n g ⟨k / 64, by omega⟩) * O (ix5 b n g ⟨k / 64, by omega⟩ ⟨k % 64, by omega⟩) := by
  pointwise [MIXED]

theorem merged_apply (G : FVec Ideal S2x8192x3x1024 .f32) (A : FVec Ideal S2x8192x256 .f32) (OB OC : FVec Ideal S2x8192x512 .bf16)
    (PA : FVec Ideal S2x256x1024 .f32) (PB PC : FVec Ideal S2x512x1024 .f32) (b : Fin 2) (n : Fin 8192) (j : Fin 1024) :
    MERGED G A OB OC PA PB PC (ix3 b n j) = G (ix4 b n 0 j) * (∑ k : Fin 256, A (ix3 b n k) * PA (ix3 1 k j))
      + G (ix4 b n 1 j) * (∑ k : Fin 512, OB (ix3 b n k) * PB (ix3 1 k j)) + G (ix4 b n 2 j) * (∑ k : Fin 512, OC (ix3 b n k) * PC (ix3 1 k j)) := by
  pointwise [MERGED]

theorem out_apply (X D : FVec Ideal S2x8192x1024 .f32) (WO : FVec Ideal S2x1024x1024 .f32) (i : Fin 16384) (e : Fin 1024) :
    OUT X D WO (ix2 i e) = X (ix3 ⟨i / 8192, by omega⟩ ⟨i % 8192, by omega⟩ e)
      + ∑ j : Fin 1024, D (ix3 ⟨i / 8192, by omega⟩ ⟨i % 8192, by omega⟩ j) * WO (ix3 1 j e) := by
  pointwise [OUT]

end Cert.Reference3Ideal.Merge

end
-- ==== Proof.Merge.Shares.lean ====
/-
  The weights of the merge: what mixing with powers of two of logarithms to base two gives, against exponentials of the natural
  logarithms over their sum.
-/
module

public import proofs.«01_k».proof.Proof.Mixer.Softmax

@[expose] public section

noncomputable section

namespace Cert.Softmax

open Idealize.ShloMosaic
open scoped BigOperators

/-- The power of two of a real over the logarithm of two, shifted by a real, is an exponential. -/
theorem exp2_over_log (x μ : ℝ) :
    Ideal.exp2 (((x * (Real.log 2)⁻¹ : ℝ) : EReal) - (μ : EReal)) = ((Real.exp (x - μ * Real.log 2) : ℝ) : EReal) := by
  rw [exp2_sub]
  have h2 : Real.log 2 ≠ 0 := (Real.log_pos (by norm_num)).ne'
  congr 1
  rw [Real.rpow_def_of_pos (by norm_num)]
  congr 1
  field_simp

/-- An exponential of a difference of reals is real. -/
theorem exp_sub (a b : ℝ) : Ideal.exp ((a : EReal) - (b : EReal)) = ((Real.exp (a - b) : ℝ) : EReal) := by
  rw [← EReal.coe_sub]; rfl

/-- The greater of two reals is real. -/
theorem max_coe (a b : ℝ) : max (a : EReal) (b : EReal) = ((max a b : ℝ) : EReal) :=
  (EReal.coe_strictMono.monotone.map_max).symm

/-- Three summands mixed with powers of two of `l g / log 2`, the greatest subtracted, and divided by the sum of those powers: the
    mean with the shares of the exponentials of `l g`, whatever real `M` is subtracted there. -/
theorem mix_three (l : Fin 3 → ℝ) (M : ℝ) (a : Fin 3 → EReal) :
    let e : Fin 3 → EReal := fun g => (l g : EReal) * (((Real.log 2)⁻¹ : ℝ) : EReal)
    let μ : EReal := max (max (e 0) (e 1)) (e 2)
    Ideal.div (Ideal.exp2 (e 0 - μ) * a 0 + Ideal.exp2 (e 1 - μ) * a 1 + Ideal.exp2 (e 2 - μ) * a 2)
        (Ideal.exp2 (e 0 - μ) + Ideal.exp2 (e 1 - μ) + Ideal.exp2 (e 2 - μ))
      = ∑ g, Ideal.div (Ideal.exp ((l g : EReal) - (M : EReal))) (∑ u, Ideal.exp ((l u : EReal) - (M : EReal))) * a g := by
  intro e μ
  obtain ⟨ν, hν⟩ : ∃ ν : ℝ, μ = (ν : EReal) :=
    ⟨max (max (l 0 * (Real.log 2)⁻¹) (l 1 * (Real.log 2)⁻¹)) (l 2 * (Real.log 2)⁻¹), by
      show max (max (_ * _) (_ * _)) (_ * _) = _; simp only [← EReal.coe_mul, max_coe]⟩
  have he : ∀ g, Ideal.exp2 (e g - μ) = ((Real.exp (l g - ν * Real.log 2) : ℝ) : EReal) := fun g => by
    rw [hν]
    show Ideal.exp2 ((l g : EReal) * _ - _) = _
    rw [← EReal.coe_mul, exp2_over_log]
  have key := shift (by norm_num) l (ν * Real.log 2) M a
  simp only [Fin.sum_univ_three] at key ⊢
  rw [he, he, he]
  simp only [exp_sub]
  simp only [mul_comm (a _)] at key
  exact key

end Cert.Softmax

end
-- ==== Proof.Merge.Rows.lean ====
/-
  A row of the merge's block is a row of the reference, where the block's operands are the row's parts of the arguments.
-/
module

public import proofs.«01_k».proof.Proof.Merge.Block
public import proofs.«01_k».proof.Proof.Merge.Reference
public import proofs.«01_k».proof.Proof.Merge.Shares

@[expose] public section

set_option maxRecDepth 16384

noncomputable section

open Idealize.ShloMosaic Idealize.ShloMosaic.TcCoe Idealize.SL.Sem
open scoped BigOperators

namespace Cert.Kernel3Ideal.Merge

open Cert.Kernel3Ideal Cert.Kernel3Ideal.Gen
open Cert.Reference3Ideal.Merge (LOGITS GATES GREATEST WEIGHTS SHARES MIXED MERGED OUT REF)

variable (X : FVec Ideal Cert.Reference3Ideal.S2x8192x1024 .f32) (N : FVec Ideal Cert.Reference3Ideal.S2x1024 .f32)
  (O : FVec Ideal Cert.Reference3Ideal.S2x8192x3x4x64 .f32) (E : FVec Ideal Cert.Reference3Ideal.S2x8192x3x4 .f32)
  (OB OC : FVec Ideal Cert.Reference3Ideal.S2x8192x512 .bf16) (W : FVec Ideal Cert.Reference3Ideal.S2x1024x7680 .f32)
  (PA : FVec Ideal Cert.Reference3Ideal.S2x256x1024 .f32) (PB PC : FVec Ideal Cert.Reference3Ideal.S2x512x1024 .f32)
  (WO : FVec Ideal Cert.Reference3Ideal.S2x1024x1024 .f32)

/-- A gate of the block is the reference's gate `p` at column `J`, where the gate's block of the projection holds its columns. -/
theorem gate_eq (x : FVec Ideal S512x1024 .f32) (g : FVec Ideal S1x1024 .f32) (w : FVec Ideal S1x1024x512 .f32) (r j : Fin 512)
    (b : Fin 2) (n : Fin 8192) (p : Fin 3) (J : Fin 1024)
    (hx : ∀ k : Fin 1024, x (ix2 r k) = X (ix3 b n k)) (hg : ∀ k : Fin 1024, g (ix2 0 k) = N (ix2 1 k))
    (hw : ∀ k : Fin 1024, w (ix3 0 k j) = W (ix3 1 k ⟨4608 + (p * 1024 + J), by omega⟩)) :
    gate x g w r j = GATES (LOGITS X N W) (ix4 b n p J) := by
  rw [Cert.Reference3Ideal.Merge.gates_apply, Cert.Reference3Ideal.Merge.logits_apply]
  unfold gate normed Cert.Reference3Ideal.Merge.normed
  simp only [hx, hg, hw]

/-- The logarithms to base two at an index. -/
theorem scaled_apply (e : FVec Ideal S512x256 .f32) (r : Fin 512) (k : Fin 256) :
    scaled e (ix2 r k) = e (ix2 r k) * (((Real.log 2)⁻¹ : ℝ) : EReal) := by
  pointwise [scaled]
  rfl

/-- The groups as the block mixes them are the reference's, where the logarithms are real. -/
theorem mix_eq (l : Cert.Reference3Ideal.S2x8192x3x4.Idx → ℝ) (hl : ∀ y, E y = (l y : EReal))
    (a0 a1 a2 e0 e1 e2 : FVec Ideal S512x256 .f32) (r : Fin 512) (k : Fin 256) (b : Fin 2) (n : Fin 8192)
    (h0 : a0 (ix2 r k) = O (ix5 b n 0 ⟨k / 64, by omega⟩ ⟨k % 64, by omega⟩))
    (h1 : a1 (ix2 r k) = O (ix5 b n 1 ⟨k / 64, by omega⟩ ⟨k % 64, by omega⟩))
    (h2 : a2 (ix2 r k) = O (ix5 b n 2 ⟨k / 64, by omega⟩ ⟨k % 64, by omega⟩))
    (g0 : e0 (ix2 r k) = E (ix4 b n 0 ⟨k / 64, by omega⟩)) (g1 : e1 (ix2 r k) = E (ix4 b n 1 ⟨k / 64, by omega⟩))
    (g2 : e2 (ix2 r k) = E (ix4 b n 2 ⟨k / 64, by omega⟩)) :
    mix a0 a1 a2 (scaled e0) (scaled e1) (scaled e2) r k = MIXED (SHARES (WEIGHTS E (GREATEST E))) O (ix3 b n k) := by
  have hk : (k : ℕ) / 64 < 4 := by omega
  have hk' : (k : ℕ) % 64 < 64 := by omega
  obtain ⟨M, hM⟩ := Cert.Softmax.fold_max_real (by norm_num) (fun g : Fin 3 => l (ix4 b n g ⟨k / 64, hk⟩))
  have hw : ∀ g : Fin 3, WEIGHTS E (GREATEST E) (ix4 b n g ⟨k / 64, hk⟩)
      = Ideal.exp ((l (ix4 b n g ⟨k / 64, hk⟩) : EReal) - (M : EReal)) := fun g => by
    rw [Cert.Reference3Ideal.Merge.weights_apply, Cert.Reference3Ideal.Merge.greatest_apply, Cert.Softmax.neg_inf]
    simp only [hl]
    rw [hM, max_eq_right bot_le]
  rw [Cert.Reference3Ideal.Merge.mixed_apply]
  simp only [Cert.Reference3Ideal.Merge.shares_apply, hw]
  unfold mix top
  simp only [scaled_apply, h0, h1, h2, g0, g1, g2, hl]
  exact Cert.Softmax.mix_three (fun g : Fin 3 => l (ix4 b n g ⟨k / 64, hk⟩)) M
    (fun g : Fin 3 => O (ix5 b n g ⟨k / 64, hk⟩ ⟨k % 64, hk'⟩))

/-- A row of a block whose operands are the arguments' parts of position `n` of sequence `b` is the reference's row, where the
    logarithms are real: the block's gates `w (2 p + q)` are half `q` of the columns of gate `p`. -/
theorem block_eq (l : Cert.Reference3Ideal.S2x8192x3x4.Idx → ℝ) (hl : ∀ y, E y = (l y : EReal))
    (x : FVec Ideal S512x1024 .f32) (g : FVec Ideal S1x1024 .f32) (a0 a1 a2 e0 e1 e2 : FVec Ideal S512x256 .f32)
    (ob oc : FVec Ideal S512x512 .bf16) (w0 w1 w2 w3 w4 w5 : FVec Ideal S1x1024x512 .f32) (pa : FVec Ideal S1x256x1024 .f32)
    (pb pc : FVec Ideal S1x512x1024 .f32) (wo : FVec Ideal S1x1024x1024 .f32)
    (r : Fin 512) (i : Fin 16384) (e : Fin 1024) (b : Fin 2) (n : Fin 8192) (hb : (b : ℕ) = i / 8192) (hn : (n : ℕ) = i % 8192)
    (hx : ∀ k : Fin 1024, x (ix2 r k) = X (ix3 b n k)) (hg : ∀ k : Fin 1024, g (ix2 0 k) = N (ix2 1 k))
    (h0 : ∀ k : Fin 256, a0 (ix2 r k) = O (ix5 b n 0 ⟨k / 64, by omega⟩ ⟨k % 64, by omega⟩))
    (h1 : ∀ k : Fin 256, a1 (ix2 r k) = O (ix5 b n 1 ⟨k / 64, by omega⟩ ⟨k % 64, by omega⟩))
    (h2 : ∀ k : Fin 256, a2 (ix2 r k) = O (ix5 b n 2 ⟨k / 64, by omega⟩ ⟨k % 64, by omega⟩))
    (g0 : ∀ k : Fin 256, e0 (ix2 r k) = E (ix4 b n 0 ⟨k / 64, by omega⟩))
    (g1 : ∀ k : Fin 256, e1 (ix2 r k) = E (ix4 b n 1 ⟨k / 64, by omega⟩))
    (g2 : ∀ k : Fin 256, e2 (ix2 r k) = E (ix4 b n 2 ⟨k / 64, by omega⟩))
    (hob : ∀ k : Fin 512, ob (ix2 r k) = OB (ix3 b n k)) (hoc : ∀ k : Fin 512, oc (ix2 r k) = OC (ix3 b n k))
    (hw0 : ∀ (k : Fin 1024) (j : Fin 512), w0 (ix3 0 k j) = W (ix3 1 k ⟨4608 + j, by omega⟩))
    (hw1 : ∀ (k : Fin 1024) (j : Fin 512), w1 (ix3 0 k j) = W (ix3 1 k ⟨5120 + j, by omega⟩))
    (hw2 : ∀ (k : Fin 1024) (j : Fin 512), w2 (ix3 0 k j) = W (ix3 1 k ⟨5632 + j, by omega⟩))
    (hw3 : ∀ (k : Fin 1024) (j : Fin 512), w3 (ix3 0 k j) = W (ix3 1 k ⟨6144 + j, by omega⟩))
    (hw4 : ∀ (k : Fin 1024) (j : Fin 512), w4 (ix3 0 k j) = W (ix3 1 k ⟨6656 + j, by omega⟩))
    (hw5 : ∀ (k : Fin 1024) (j : Fin 512), w5 (ix3 0 k j) = W (ix3 1 k ⟨7168 + j, by omega⟩))
    (hpa : ∀ (k : Fin 256) (e : Fin 1024), pa (ix3 0 k e) = PA (ix3 1 k e))
    (hpb : ∀ (k : Fin 512) (e : Fin 1024), pb (ix3 0 k e) = PB (ix3 1 k e))
    (hpc : ∀ (k : Fin 512) (e : Fin 1024), pc (ix3 0 k e) = PC (ix3 1 k e))
    (hwo : ∀ k e : Fin 1024, wo (ix3 0 k e) = WO (ix3 1 k e)) :
    block x g a0 a1 a2 (scaled e0) (scaled e1) (scaled e2) ob oc w0 w1 w2 w3 w4 w5 pa pb pc wo r e
      = REF X N O E OB OC W PA PB PC WO (ix2 i e) := by
  have eb : (⟨(i : ℕ) / 8192, by omega⟩ : Fin 2) = b := Fin.ext hb.symm
  have en : (⟨(i : ℕ) % 8192, by omega⟩ : Fin 8192) = n := Fin.ext hn.symm
  have hm : ∀ k, mix a0 a1 a2 (scaled e0) (scaled e1) (scaled e2) r k = MIXED (SHARES (WEIGHTS E (GREATEST E))) O (ix3 b n k) := fun k =>
    mix_eq O E l hl a0 a1 a2 e0 e1 e2 r k b n (h0 k) (h1 k) (h2 k) (g0 k) (g1 k) (g2 k)
  have hgated : ∀ (wa wb wc : FVec Ideal S1x1024x512 .f32) (j : Fin 512) (J : Fin 1024),
      (∀ k : Fin 1024, wa (ix3 0 k j) = W (ix3 1 k ⟨4608 + ((0 : Fin 3) * 1024 + J), by have : ((0 : Fin 3) : ℕ) = 0 := rfl; omega⟩)) →
      (∀ k : Fin 1024, wb (ix3 0 k j) = W (ix3 1 k ⟨4608 + ((1 : Fin 3) * 1024 + J), by have : ((1 : Fin 3) : ℕ) = 1 := rfl; omega⟩)) →
      (∀ k : Fin 1024, wc (ix3 0 k j) = W (ix3 1 k ⟨4608 + ((2 : Fin 3) * 1024 + J), by have : ((2 : Fin 3) : ℕ) = 2 := rfl; omega⟩)) →
      gated x g a0 a1 a2 (scaled e0) (scaled e1) (scaled e2) ob oc pa pb pc wa wb wc r j J
        = MERGED (GATES (LOGITS X N W)) (MIXED (SHARES (WEIGHTS E (GREATEST E))) O) OB OC PA PB PC (ix3 b n J) := fun wa wb wc j J ha hb hc => by
    unfold gated branch branchA
    rw [gate_eq X N W x g wa r j b n 0 J hx hg ha, gate_eq X N W x g wb r j b n 1 J hx hg hb, gate_eq X N W x g wc r j b n 2 J hx hg hc,
      Cert.Reference3Ideal.Merge.merged_apply]
    simp only [hm, hob, hoc, hpa, hpb, hpc]
    rw [add_comm _ (GATES _ _ * _), ← add_assoc]
  unfold REF
  rw [Cert.Reference3Ideal.Merge.out_apply, eb, en, Fin.sum_univ_two_halves 512 512 rfl]
  unfold block
  rw [hx]
  congr 1
  congr 1
  · refine Finset.sum_congr rfl fun j _ => ?_
    rw [hgated w0 w2 w4 j ⟨j, by omega⟩ (fun k => (hw0 k j).trans (congrArg W (by idx_ext)))
      (fun k => (hw2 k j).trans (congrArg W (by idx_ext))) (fun k => (hw4 k j).trans (congrArg W (by idx_ext))), hwo]
  · refine Finset.sum_congr rfl fun j _ => ?_
    rw [hgated w1 w3 w5 j ⟨512 + j, by omega⟩ (fun k => (hw1 k j).trans (congrArg W (by idx_ext)))
      (fun k => (hw3 k j).trans (congrArg W (by idx_ext))) (fun k => (hw5 k j).trans (congrArg W (by idx_ext))), hwo]

end Cert.Kernel3Ideal.Merge

end
-- ==== Proof.Merge.Value.lean ====
/-
  The gated merge: its result array after the run is the reference's own expression of the arguments, where the logarithms of
  the groups' denominators are real.
-/
module

public import proofs.«01_k».proof.Proof.Merge.After
public import proofs.«01_k».proof.Proof.Merge.Entry
public import proofs.«01_k».proof.Proof.Merge.Rows

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Merge

open Cert.Kernel3Ideal Cert.Kernel3Ideal.Gen
open Cert.Reference3Ideal.Merge (REF)

variable (m : (ℓ : Loc nD τ sig) → Buf (Elt Ideal) ℓ) (c : Dev nD)

/-- The block indices of the windows over rows and over the sorted groups at a grid point. -/
theorem idx : ∀ t : Fin cfg0.N, win0_0.index t = ![t.val, 0] ∧ win0_1.index t = ![0, 0] ∧ win0_2.index t = ![t.val, 0]
    ∧ win0_3.index t = ![t.val / 16, 0, t.val % 16, 0] ∧ win0_4.index t = ![t.val / 16, 0, t.val % 16, 0]
    ∧ win0_5.index t = ![t.val, 0] ∧ win0_6.index t = ![t.val / 16, 0, t.val % 16, 0] ∧ win0_7.index t = ![t.val / 16, 0, t.val % 16, 0]
    ∧ win0_8.index t = ![t.val, 0] ∧ win0_9.index t = ![t.val, 0] ∧ win0_20.index t = ![t.val, 0] :=
  (by decide +kernel : ∀ t : Fin grid0.N, _)

/-- The block indices of the windows over weights: the last layer's. -/
theorem idx_weights : ∀ t : Fin cfg0.N, win0_10.index t = ![1, 0, 9] ∧ win0_11.index t = ![1, 0, 10] ∧ win0_12.index t = ![1, 0, 11]
    ∧ win0_13.index t = ![1, 0, 12] ∧ win0_14.index t = ![1, 0, 13] ∧ win0_15.index t = ![1, 0, 14] ∧ win0_16.index t = ![1, 0, 0]
    ∧ win0_17.index t = ![1, 0, 0] ∧ win0_18.index t = ![1, 0, 0] ∧ win0_19.index t = ![1, 0, 0] :=
  (by decide +kernel : ∀ t : Fin grid0.N, _)

variable (t : Fin cfg0.N)

/-- Row `r` of block `t`, among the rows of both sequences. -/
def row (r : Fin 512) : Fin 16384 := ⟨512 * t + r, by have ht : t.val < 32 := t.isLt; omega⟩

/-- The sequence of block `t`. -/
def seqOf : Fin 2 := ⟨t.val / 16, by have ht : t.val < 32 := t.isLt; omega⟩

/-- The position of its row `r`. -/
def posOf (r : Fin 512) : Fin 8192 := ⟨512 * (t.val % 16) + r, by omega⟩

theorem row_seq (r : Fin 512) : (⟨(row t r : ℕ) / 8192, by omega⟩ : Fin 2) = seqOf t :=
  Fin.ext (show (512 * t.val + r) / 8192 = t.val / 16 by omega)

theorem row_pos (r : Fin 512) : (⟨(row t r : ℕ) % 8192, by omega⟩ : Fin 8192) = posOf t r :=
  Fin.ext (show (512 * t.val + r) % 8192 = 512 * (t.val % 16) + r by omega)

/-! ### What the windows read -/

/-- Rows of the residual, of mixer A's first group and its logarithms, and of mixers B and C. -/
theorem read_rows (A : FVec Ideal S16384x1024 .f32) (r : Fin 512) (k : Fin 1024) :
    View.read (Elt Ideal) ((cfg0.win 0).blk t).view A (ix2 r k) = A (ix2 (row t r) k) := by
  refine congrArg A ?_; blk_ext [idx t, row]

theorem read_heads (A : FVec Ideal S16384x256 .f32) (r : Fin 512) (k : Fin 256) :
    View.read (Elt Ideal) ((cfg0.win 2).blk t).view A (ix2 r k) = A (ix2 (row t r) k)
      ∧ View.read (Elt Ideal) ((cfg0.win 5).blk t).view A (ix2 r k) = A (ix2 (row t r) k) := by
  refine ⟨congrArg A ?_, congrArg A ?_⟩ <;> blk_ext [idx t, row]

theorem read_mixers (A : FVec Ideal S16384x512 .bf16) (r k : Fin 512) :
    View.read (Elt Ideal) ((cfg0.win 8).blk t).view A (ix2 r k) = A (ix2 (row t r) k)
      ∧ View.read (Elt Ideal) ((cfg0.win 9).blk t).view A (ix2 r k) = A (ix2 (row t r) k) := by
  refine ⟨congrArg A ?_, congrArg A ?_⟩ <;> blk_ext [idx t, row]

/-- The gain. -/
theorem read_gain (A : FVec Ideal S1x1024 .f32) (k : Fin 1024) : View.read (Elt Ideal) ((cfg0.win 1).blk t).view A (ix2 0 k) = A (ix2 0 k) := by
  refine congrArg A ?_; blk_ext [idx t]

/-- The sorted groups and their logarithms. -/
theorem read_sorted4 (A : FVec Ideal S2x4x2048x256 .f32) (q : Fin 4) (p : Fin 128) (k : Fin 256) :
    View.read (Elt Ideal) ((cfg0.win 3).blk t).view A (ix4 0 q p k) = A (ix4 (seqOf t) q ⟨128 * (t.val % 16) + p, by omega⟩ k)
      ∧ View.read (Elt Ideal) ((cfg0.win 6).blk t).view A (ix4 0 q p k) = A (ix4 (seqOf t) q ⟨128 * (t.val % 16) + p, by omega⟩ k) := by
  refine ⟨congrArg A ?_, congrArg A ?_⟩ <;> blk_ext [idx t, seqOf]

theorem read_sorted16 (A : FVec Ideal S2x16x512x256 .f32) (q : Fin 16) (p : Fin 32) (k : Fin 256) :
    View.read (Elt Ideal) ((cfg0.win 4).blk t).view A (ix4 0 q p k) = A (ix4 (seqOf t) q ⟨32 * (t.val % 16) + p, by omega⟩ k)
      ∧ View.read (Elt Ideal) ((cfg0.win 7).blk t).view A (ix4 0 q p k) = A (ix4 (seqOf t) q ⟨32 * (t.val % 16) + p, by omega⟩ k) := by
  refine ⟨congrArg A ?_, congrArg A ?_⟩ <;> blk_ext [idx t, seqOf]

/-- The halves of the gates' columns of the projection. -/
theorem read_gates (A : FVec Ideal S2x1024x7680 .f32) (k : Fin 1024) (j : Fin 512) :
    View.read (Elt Ideal) ((cfg0.win 10).blk t).view A (ix3 0 k j) = A (ix3 1 k ⟨4608 + j, by omega⟩)
      ∧ View.read (Elt Ideal) ((cfg0.win 11).blk t).view A (ix3 0 k j) = A (ix3 1 k ⟨5120 + j, by omega⟩)
      ∧ View.read (Elt Ideal) ((cfg0.win 12).blk t).view A (ix3 0 k j) = A (ix3 1 k ⟨5632 + j, by omega⟩)
      ∧ View.read (Elt Ideal) ((cfg0.win 13).blk t).view A (ix3 0 k j) = A (ix3 1 k ⟨6144 + j, by omega⟩)
      ∧ View.read (Elt Ideal) ((cfg0.win 14).blk t).view A (ix3 0 k j) = A (ix3 1 k ⟨6656 + j, by omega⟩)
      ∧ View.read (Elt Ideal) ((cfg0.win 15).blk t).view A (ix3 0 k j) = A (ix3 1 k ⟨7168 + j, by omega⟩) := by
  refine ⟨congrArg A ?_, congrArg A ?_, congrArg A ?_, congrArg A ?_, congrArg A ?_, congrArg A ?_⟩ <;> blk_ext [idx_weights t]

/-- The projections of the branches and of the output. -/
theorem read_branchA (A : FVec Ideal S2x256x1024 .f32) (k : Fin 256) (e : Fin 1024) :
    View.read (Elt Ideal) ((cfg0.win 16).blk t).view A (ix3 0 k e) = A (ix3 1 k e) := by
  refine congrArg A ?_; blk_ext [idx_weights t]

theorem read_branches (A : FVec Ideal S2x512x1024 .f32) (k : Fin 512) (e : Fin 1024) :
    View.read (Elt Ideal) ((cfg0.win 17).blk t).view A (ix3 0 k e) = A (ix3 1 k e)
      ∧ View.read (Elt Ideal) ((cfg0.win 18).blk t).view A (ix3 0 k e) = A (ix3 1 k e) := by
  refine ⟨congrArg A ?_, congrArg A ?_⟩ <;> blk_ext [idx_weights t]

theorem read_out (A : FVec Ideal S2x1024x1024 .f32) (k e : Fin 1024) : View.read (Elt Ideal) ((cfg0.win 19).blk t).view A (ix3 0 k e) = A (ix3 1 k e) := by
  refine congrArg A ?_; blk_ext [idx_weights t]

/-! ### The blocks as parts of the arguments -/

/-- Residual rows, and rows of mixers B and C. -/
theorem block_rows (r : Fin 512) (k : Fin 1024) : iblk m c 0 t (ix2 r k) = m ((c : Thread nD τ).loc main_arg0) (ix3 (seqOf t) (posOf t r) k) := by
  rw [← row_seq, ← row_pos]
  exact (read_rows t (V m c main_v36) r k).trans (V_rows m c (row t r) k)

theorem block_b (r : Fin 512) (k : Fin 512) : iblk m c 8 t (ix2 r k) = m ((c : Thread nD τ).loc main_arg4) (ix3 (seqOf t) (posOf t r) k) := by
  rw [← row_seq, ← row_pos]
  exact (read_mixers t (V m c main_v40) r k).1.trans (V_b m c (row t r) k)

theorem block_c (r : Fin 512) (k : Fin 512) : iblk m c 9 t (ix2 r k) = m ((c : Thread nD τ).loc main_arg5) (ix3 (seqOf t) (posOf t r) k) := by
  rw [← row_seq, ← row_pos]
  exact (read_mixers t (V m c main_v41) r k).2.trans (V_c m c (row t r) k)

/-- The gain. -/
theorem block_gain (k : Fin 1024) : iblk m c 1 t (ix2 0 k) = m ((c : Thread nD τ).loc main_arg1) (ix2 1 k) :=
  (read_gain t (V m c main_v39) k).trans (V_gain m c k)

/-- Mixer A's groups, token by token, and their logarithms. -/
theorem block_group0 (r : Fin 512) (k : Fin 256) : iblk m c 2 t (ix2 r k) = m ((c : Thread nD τ).loc main_arg2) (ix5 (seqOf t) (posOf t r) 0 ⟨k / 64, by omega⟩ ⟨k % 64, by omega⟩) := by
  rw [← row_seq, ← row_pos]
  exact (read_heads t (V m c main_v42) r k).1.trans (V_group0 m c (row t r) k)

theorem block_log0 (r : Fin 512) (k : Fin 256) : iblk m c 5 t (ix2 r k) = m ((c : Thread nD τ).loc main_arg3) (ix4 (seqOf t) (posOf t r) 0 ⟨k / 64, by omega⟩) := by
  rw [← row_seq, ← row_pos]
  exact (read_heads t (V m c main_v43) r k).2.trans (V_log0 m c (row t r) k)

/-- The position of a token, from its class and its place in the class. -/
theorem pos_of_class4 (r : Fin 512) : (⟨(128 * (t.val % 16) + r / 4) * 4 + r % 4, by omega⟩ : Fin 8192) = posOf t r :=
  Fin.ext (show (128 * (t.val % 16) + r / 4) * 4 + r % 4 = 512 * (t.val % 16) + r by omega)

/-- The position of a token, from its class and its place in the class. -/
theorem pos_of_class16 (r : Fin 512) : (⟨(32 * (t.val % 16) + r / 16) * 16 + r % 16, by omega⟩ : Fin 8192) = posOf t r :=
  Fin.ext (show (32 * (t.val % 16) + r / 16) * 16 + r % 16 = 512 * (t.val % 16) + r by omega)

theorem block_group1 (r : Fin 512) (k : Fin 256) : tokens4 (iblk m c 3 t) (ix2 r k) = m ((c : Thread nD τ).loc main_arg2) (ix5 (seqOf t) (posOf t r) 1 ⟨k / 64, by omega⟩ ⟨k % 64, by omega⟩) := by
  rw [← pos_of_class4]
  exact (read_sorted4 t (V m c main_v20) ⟨r % 4, by omega⟩ ⟨r / 4, by omega⟩ k).1.trans
    (V_group1 m c (seqOf t) ⟨r % 4, by omega⟩ ⟨128 * (t.val % 16) + r / 4, by omega⟩ k)

theorem block_log1 (r : Fin 512) (k : Fin 256) : tokens4 (iblk m c 6 t) (ix2 r k) = m ((c : Thread nD τ).loc main_arg3) (ix4 (seqOf t) (posOf t r) 1 ⟨k / 64, by omega⟩) := by
  rw [← pos_of_class4]
  exact (read_sorted4 t (V m c main_v23) ⟨r % 4, by omega⟩ ⟨r / 4, by omega⟩ k).2.trans
    (V_log1 m c (seqOf t) ⟨r % 4, by omega⟩ ⟨128 * (t.val % 16) + r / 4, by omega⟩ k)

theorem block_group2 (r : Fin 512) (k : Fin 256) : tokens16 (iblk m c 4 t) (ix2 r k) = m ((c : Thread nD τ).loc main_arg2) (ix5 (seqOf t) (posOf t r) 2 ⟨k / 64, by omega⟩ ⟨k % 64, by omega⟩) := by
  rw [← pos_of_class16]
  exact (read_sorted16 t (V m c main_v32) ⟨r % 16, by omega⟩ ⟨r / 16, by omega⟩ k).1.trans
    (V_group2 m c (seqOf t) ⟨r % 16, by omega⟩ ⟨32 * (t.val % 16) + r / 16, by omega⟩ k)

theorem block_log2 (r : Fin 512) (k : Fin 256) : tokens16 (iblk m c 7 t) (ix2 r k) = m ((c : Thread nD τ).loc main_arg3) (ix4 (seqOf t) (posOf t r) 2 ⟨k / 64, by omega⟩) := by
  rw [← pos_of_class16]
  exact (read_sorted16 t (V m c main_v35) ⟨r % 16, by omega⟩ ⟨r / 16, by omega⟩ k).2.trans
    (V_log2 m c (seqOf t) ⟨r % 16, by omega⟩ ⟨32 * (t.val % 16) + r / 16, by omega⟩ k)

/-- The weights' blocks. -/
theorem block_gates (k : Fin 1024) (j : Fin 512) :
    iblk m c 10 t (ix3 0 k j) = m ((c : Thread nD τ).loc main_arg6) (ix3 1 k ⟨4608 + j, by omega⟩)
      ∧ iblk m c 11 t (ix3 0 k j) = m ((c : Thread nD τ).loc main_arg6) (ix3 1 k ⟨5120 + j, by omega⟩)
      ∧ iblk m c 12 t (ix3 0 k j) = m ((c : Thread nD τ).loc main_arg6) (ix3 1 k ⟨5632 + j, by omega⟩)
      ∧ iblk m c 13 t (ix3 0 k j) = m ((c : Thread nD τ).loc main_arg6) (ix3 1 k ⟨6144 + j, by omega⟩)
      ∧ iblk m c 14 t (ix3 0 k j) = m ((c : Thread nD τ).loc main_arg6) (ix3 1 k ⟨6656 + j, by omega⟩)
      ∧ iblk m c 15 t (ix3 0 k j) = m ((c : Thread nD τ).loc main_arg6) (ix3 1 k ⟨7168 + j, by omega⟩) := by
  have h := read_gates t (V m c main_arg6) k j
  rw [V_main_arg6] at h
  exact h

theorem block_branches (k : Fin 512) (e : Fin 1024) : iblk m c 17 t (ix3 0 k e) = m ((c : Thread nD τ).loc main_arg8) (ix3 1 k e)
    ∧ iblk m c 18 t (ix3 0 k e) = m ((c : Thread nD τ).loc main_arg9) (ix3 1 k e) :=
  ⟨(read_branches t (V m c main_arg8) k e).1.trans (congrFun (V_main_arg8 m c) _),
    (read_branches t (V m c main_arg9) k e).2.trans (congrFun (V_main_arg9 m c) _)⟩

theorem block_branchA (k : Fin 256) (e : Fin 1024) : iblk m c 16 t (ix3 0 k e) = m ((c : Thread nD τ).loc main_arg7) (ix3 1 k e) :=
  (read_branchA t (V m c main_arg7) k e).trans (congrFun (V_main_arg7 m c) _)

theorem block_out (k e : Fin 1024) : iblk m c 19 t (ix3 0 k e) = m ((c : Thread nD τ).loc main_arg10) (ix3 1 k e) :=
  (read_out t (V m c main_arg10) k e).trans (congrFun (V_main_arg10 m c) _)

set_option maxHeartbeats 1000000 in
/-- The result array after the run. -/
theorem final (l : S2x8192x3x4.Idx → ℝ) (hl : ∀ y, m ((c : Thread nD τ).loc main_arg3) y = (l y : EReal)) :
    (dats m 0 c).arrAt 20 (cfgs 0).N = REF (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) := by
  refine (dats m 0 c).arrAt_eq_of_covers 20 _ (by decide +kernel) fun t _ y => ?_
  blk_simp
  obtain ⟨r, e, rfl⟩ : ∃ (r : Fin 512) (e : Fin 1024), y = ix2 r e := ⟨y 0, y 1, eq_ix2 y⟩
  refine (after_apply m c t r e).trans ?_
  have key := block_eq (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    l hl (iblk m c 0 t) (iblk m c 1 t) (iblk m c 2 t) (tokens4 (iblk m c 3 t)) (tokens16 (iblk m c 4 t)) (iblk m c 5 t)
    (tokens4 (iblk m c 6 t)) (tokens16 (iblk m c 7 t)) (iblk m c 8 t) (iblk m c 9 t) (iblk m c 10 t) (iblk m c 11 t) (iblk m c 12 t)
    (iblk m c 13 t) (iblk m c 14 t) (iblk m c 15 t) (iblk m c 16 t) (iblk m c 17 t) (iblk m c 18 t) (iblk m c 19 t)
    r (row t r) e (seqOf t) (posOf t r) (congrArg Fin.val (row_seq t r)).symm (congrArg Fin.val (row_pos t r)).symm
    (block_rows m c t r) (block_gain m c t) (block_group0 m c t r) (block_group1 m c t r) (block_group2 m c t r)
    (block_log0 m c t r) (block_log1 m c t r) (block_log2 m c t r) (block_b m c t r) (block_c m c t r)
    (fun k j => (block_gates m c t k j).1)
    (fun k j => (block_gates m c t k j).2.1)
    (fun k j => (block_gates m c t k j).2.2.1)
    (fun k j => (block_gates m c t k j).2.2.2.1)
    (fun k j => (block_gates m c t k j).2.2.2.2.1)
    (fun k j => (block_gates m c t k j).2.2.2.2.2)
    (block_branchA m c t) (fun k e => (block_branches m c t k e).1) (fun k e => (block_branches m c t k e).2) (block_out m c t)
  refine key.trans (congrArg _ ?_)
  blk_ext [idx t, row]

end Cert.Kernel3Ideal.Merge

end
-- ==== Proof.Merge.Finite.lean ====
/-
  What the merge's precondition says: every logarithm is a real number.
-/
module

public import proofs.«01_k».proof.Pre_finite_logs
public import proofs.«01_k».proof.Proof.Mixer.Finite

@[expose] public section

noncomputable section

namespace Cert.Pre_finite_logs

open Idealize.ShloMosaic

/-- The fact that the predicate's operations take. -/
instance facts : Facts := ⟨by decide⟩

/-- The logarithms are real. -/
theorem logs_real (X : FVec Ideal S2x8192x1024 .f32) (N : FVec Ideal S2x1024 .f32) (O : FVec Ideal S2x8192x3x4x64 .f32)
    (E : FVec Ideal S2x8192x3x4 .f32) (OB OC : FVec Ideal S2x8192x512 .bf16) (W : FVec Ideal S2x1024x7680 .f32)
    (PA : FVec Ideal S2x256x1024 .f32) (PB PC : FVec Ideal S2x512x1024 .f32) (WO : FVec Ideal S2x1024x1024 .f32)
    (h : fn (F := Ideal) X N O E OB OC W PA PB PC WO = fun _ => 1#1) : ∃ l : S2x8192x3x4.Idx → ℝ, ∀ y, E y = (l y : EReal) :=
  ⟨fun y => (Cert.Pre_finite_scores.real_of_word (E y) (congrFun h y)).choose,
    fun y => (Cert.Pre_finite_scores.real_of_word (E y) (congrFun h y)).choose_spec⟩

end Cert.Pre_finite_logs

end
-- ==== Proof.lean ====
module

public import proofs.«01_k».proof.Defs
public import proofs.«01_k».proof.Proof.Mixer.Frame
public import proofs.«01_k».proof.Proof.Mixer.Value
public import proofs.«01_k».proof.Proof.Mixer.Finite
public import proofs.«01_k».proof.Proof.MixerBits.Frame
public import proofs.«01_k».proof.Proof.Ffn.Value
public import proofs.«01_k».proof.Proof.Merge.Value
public import proofs.«01_k».proof.Proof.Merge.Finite
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-! ### The channel mixer -/

/-- The reference of the channel mixer leaves its arguments and its counters alone. -/
theorem frame_R2 : Cert.quiescent_Reference2Ideal := fun m g _ =>
  (θ_run Cert.Reference2Ideal.defs _ _).mono
    (fun r h => ⟨fun c => (h c).2, sem_eq_zero_of_no_sems (by decide) r.2⟩)
    (Cert.Reference2Ideal.Value.run (F := Ideal) m g)

/-- Kernel and reference of the channel mixer end with one result. -/
theorem algebraic2 : Cert.algebraic_Kernel2Ideal_Reference2Ideal := by
  pair_intro
  · run_from Cert.Kernel2Ideal.Value.run_blocks m g
  · run_from Cert.Reference2Ideal.Value.run m' g'
    refine (Cert.Kernel2Ideal.Ffn.res_eq m' c).trans (Eq.trans ?_ (Cert.Kernel2Ideal.Ffn.final m c).symm)
    rw [(hagree c).1, (hagree c).2.1, (hagree c).2.2.1, (hagree c).2.2.2]

/-! ### Grouped-query attention -/

/-- The reference of the attention leaves its arguments and its counters alone. -/
theorem frame_R : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- Kernel and reference of the attention end with one result, where queries and keys are finite. -/
theorem algebraic : Cert.algebraic_KernelIdeal_ReferenceIdeal_pre_finite_scores := by
  pair_intro
  · run_from Cert.KernelIdeal.Mixer.run_result m g
  · run_from Cert.ReferenceIdeal.Mixer.run_result m' g'
    obtain ⟨q, hq⟩ := Cert.Pre_finite_scores.queries_real _ _ _ _ _ (hpre c).1
    obtain ⟨k, hk⟩ := Cert.Pre_finite_scores.keys_real _ _ _ _ _ (hpre c).2
    exact (Cert.KernelIdeal.Mixer.final m c q k hq hk).symm

/-- The named constant is the word of the literal that it stands for. -/
theorem preserves : Cert.preserves_Kernel_KernelIdeal :=
  IdealRules.named_const.statement _ _ _ _ _ rfl

/-! ### The gated merge -/

/-- The reference of the merge leaves its arguments and its counters alone. -/
theorem frame_R3 : Cert.quiescent_Reference3Ideal := fun m g _ =>
  (θ_run Cert.Reference3Ideal.defs _ _).mono
    (fun r h => ⟨fun c => (h c).2, sem_eq_zero_of_no_sems (by decide) r.2⟩)
    (Cert.Reference3Ideal.Value.run (F := Ideal) m g)

/-- The merge's named constant is the word of the literal that it stands for. -/
theorem preserves3 : Cert.preserves_Kernel3_Kernel3Ideal :=
  IdealRules.named_const.statement _ _ _ _ _ rfl

/-- Kernel and reference of the merge end with one result, where the logarithms are finite. -/
theorem algebraic3 : Cert.algebraic_Kernel3Ideal_Reference3Ideal_pre_finite_logs := by
  pair_intro
  · run_from Cert.Kernel3Ideal.Value.run_blocks m g
  · run_from Cert.Reference3Ideal.Value.run m' g'
    obtain ⟨l, hl⟩ := Cert.Pre_finite_logs.logs_real _ _ _ _ _ _ _ _ _ _ _ (hpre c)
    refine (Cert.Reference3Ideal.Merge.res_eq m' c).trans (Eq.trans ?_ (Cert.Kernel3Ideal.Merge.final m c l hl).symm)
    obtain ⟨h0, h1, h2, h3, h4, h5, h6, h7, h8, h9, h10⟩ := hagree c
    rw [h0, h1, h2, h3, h4, h5, h6, h7, h8, h9, h10]

theorem claim : Cert.Claim :=
  ⟨inferInstance, inferInstance, inferInstance, inferInstance, inferInstance, inferInstance, inferInstance, inferInstance,
    inferInstance, inferInstance, inferInstance,
    fun m g _ => Cert.Kernel.Mixer.frame m g, fun m g _ => Cert.KernelIdeal.Mixer.frame m g,
    fun m g _ => Cert.KernelIdeal.Mixer.frame m g, frame_R, fun m g _ => frame_R m g trivial,
    fun m g _ => Cert.Kernel2.Gen.frame m g, fun m g _ => Cert.Kernel2Ideal.Gen.frame m g, frame_R2,
    fun m g _ => Cert.Kernel3.Gen.frame m g, fun m g _ => Cert.Kernel3Ideal.Gen.frame m g,
    fun m g _ => Cert.Kernel3Ideal.Gen.frame m g, frame_R3, fun m g _ => frame_R3 m g trivial,
    preserves, algebraic, trivial, algebraic2, preserves3, algebraic3⟩

end Cert.Proof

end
